-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S512x1024 .f32) (main_arg1 : FVec F S1024x8192 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Pre_finite_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S512x1024 .f32) (main_arg1 : FVec F S1024x16384 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  main_v8
-- ==== Kernel.lean ====
abbrev S512x1024 : Shape := ⟨2, ![512, 1024]⟩
abbrev S1024x8192 : Shape := ⟨2, ![1024, 8192]⟩
abbrev S512x16384 : Shape := ⟨2, ![512, 16384]⟩
abbrev S2x1024x1024 : Shape := ⟨3, ![2, 1024, 1024]⟩
abbrev S512x8192 : Shape := ⟨2, ![512, 8192]⟩
abbrev S512x128 : Shape := ⟨2, ![512, 128]⟩
abbrev S2 : Shape := ⟨1, ![2]⟩
abbrev S_ : Shape := ⟨0, ![]⟩
abbrev S8 : Shape := ⟨1, ![8]⟩
abbrev S1 : Shape := ⟨1, ![1]⟩
abbrev S1x1024x1024 : Shape := ⟨3, ![1, 1024, 1024]⟩
abbrev S1024x1024 : Shape := ⟨2, ![1024, 1024]⟩
abbrev S512x1 : Shape := ⟨2, ![512, 1]⟩
abbrev S512 : Shape := ⟨1, ![512]⟩

abbrev nBuf : Space → Nat
  | .hbm => 3
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .f32⟩
  | .local _ .vmem, ⟨0, _⟩ => ⟨S512x1024, .f32⟩
  | .local _ .vmem, ⟨1, _⟩ => ⟨S512x16384, .f32⟩
  | .local _ .vmem, ⟨2, _⟩ => ⟨S2x1024x1024, .f32⟩
  | .local _ .vmem, ⟨3, _⟩ => ⟨S512x8192, .bf16⟩
  | .local _ .vmem, ⟨4, _⟩ => ⟨S512x8192, .bf16⟩
  | .local _ .vmem, ⟨5, _⟩ => ⟨S512x128, .f32⟩
  | .local _ .vmem, ⟨6, _⟩ => ⟨S512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v43 : BitVec 32 := Scalar.muli v6 c2_i32_34
  let v44 : BitVec 32 := Scalar.addi c0_i32_35 v43
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v45 : BitVec 32 := Scalar.muli v5 c1_i32_36
  let v46 : BitVec 32 := Scalar.addi v44 v45
  v46.toNat
def k0_dev3 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v75 : BitVec 32 := Scalar.muli v6 c2_i32_59
  let v76 : BitVec 32 := Scalar.addi c0_i32_60 v75
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v77 : BitVec 32 := Scalar.muli v5 c1_i32_61
  let v78 : BitVec 32 := Scalar.addi v76 v77
  v78.toNat
def k0_dev4 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v107 : BitVec 32 := Scalar.muli v6 c2_i32_85
  let v108 : BitVec 32 := Scalar.addi c0_i32_86 v107
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v109 : BitVec 32 := Scalar.muli v5 c1_i32_87
  let v110 : BitVec 32 := Scalar.addi v108 v109
  v110.toNat
def k0_dev5 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v139 : BitVec 32 := Scalar.muli v6 c2_i32_110
  let v140 : BitVec 32 := Scalar.addi c0_i32_111 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v141 : BitVec 32 := Scalar.muli v5 c1_i32_112
  let v142 : BitVec 32 := Scalar.addi v140 v141
  v142.toNat
def k0_dev6 (d0 : Dev nD) : Nat :=
  let c0_i32_136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_135 : BitVec 32 := 2#32
  let v171 : BitVec 32 := Scalar.muli v6 c2_i32_135
  let v172 : BitVec 32 := Scalar.addi c0_i32_136 v171
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v173 : BitVec 32 := Scalar.muli v5 c1_i32_137
  let v174 : BitVec 32 := Scalar.addi v172 v173
  v174.toNat
def k0_dev7 (d0 : Dev nD) : Nat :=
  let c0_i32_161 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_160 : BitVec 32 := 2#32
  let v203 : BitVec 32 := Scalar.muli v6 c2_i32_160
  let v204 : BitVec 32 := Scalar.addi c0_i32_161 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_162 : BitVec 32 := 1#32
  let v205 : BitVec 32 := Scalar.muli v5 c1_i32_162
  let v206 : BitVec 32 := Scalar.addi v204 v205
  v206.toNat
def k0_dev8 (d0 : Dev nD) : Nat :=
  let c0_i32_199 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_198 : BitVec 32 := 2#32
  let v257 : BitVec 32 := Scalar.muli v6 c2_i32_198
  let v258 : BitVec 32 := Scalar.addi c0_i32_199 v257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_200 : BitVec 32 := 1#32
  let v259 : BitVec 32 := Scalar.muli v5 c1_i32_200
  let v260 : BitVec 32 := Scalar.addi v258 v259
  v260.toNat
def k0_dev9 (d0 : Dev nD) : Nat :=
  let c0_i32_203 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_202 : BitVec 32 := 2#32
  let v261 : BitVec 32 := Scalar.muli v6 c2_i32_202
  let v262 : BitVec 32 := Scalar.addi c0_i32_203 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_204 : BitVec 32 := 1#32
  let v263 : BitVec 32 := Scalar.muli v5 c1_i32_204
  let v264 : BitVec 32 := Scalar.addi v262 v263
  v264.toNat
def k0_dev10 (d0 : Dev nD) : Nat :=
  let c0_i32_211 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_210 : BitVec 32 := 2#32
  let v271 : BitVec 32 := Scalar.muli v6 c2_i32_210
  let v272 : BitVec 32 := Scalar.addi c0_i32_211 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v273 : BitVec 32 := Scalar.muli v5 c1_i32_212
  let v274 : BitVec 32 := Scalar.addi v272 v273
  v274.toNat
def k0_off1 (d0 : Dev nD) (c0_i32_226 : BitVec 32) : Fin 2 → Nat :=
  let c0_227 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v293 : BitVec 32 := Scalar.muli v2 c8192_i32
  let v294 : BitVec 32 := Scalar.addi v293 c0_i32_226
  let v295 : Index := Scalar.indexCast v294
  ![0, v295.toNat]
def k0_off2 (d0 : Dev nD) (c0_i32_276 : BitVec 32) : Fin 2 → Nat :=
  let c0_277 : Index := 0#32
  let c1_i32_274 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v365 : BitVec 32 := Scalar.subi c1_i32_274 v2
  let c8192_i32_275 : BitVec 32 := 8192#32
  let v366 : BitVec 32 := Scalar.muli v365 c8192_i32_275
  let v367 : BitVec 32 := Scalar.addi v366 c0_i32_276
  let v368 : Index := Scalar.indexCast v367
  ![0, v368.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Proto.lean ====
/-
# The exchange protocol of the distributed softmax

The four devices form a 2 × 2 mesh; device `c = 2 x + y` exchanges with `peer c`, the device with the same `y` and the
other `x`. For every semaphore, who waits on it, who pays it, and what the payment hands over:

* barrier of `c` (one unit, once): paid by `peer c` at entry, waited on by `c` at entry. Hands over `peer c`'s two
  receive buffers, at any contents: from here on `c` may copy into them.
* `wS s` of `c`, `s = 0, 1` (four rounds each): paid by `c`'s own copy of weight chunk `k = 2 r + s` into slot `s`,
  waited on by `c`. Hands back the chunk of the weights and the slot holding it.
* `stS` of `c` (once): paid by `c`'s copy of its row sums, when read; hands back the buffer they were read from.
* `stR` of `c` (once): paid by `peer c`'s copy of its row sums; hands over the buffer they landed in, holding them.
* `bS k` of `c`, `k < 8` (once each): paid by `c`'s copy of chunk `k` of its exponentials, when read; hands back the half
  share of the chunk the copy was lent.
* `bR k` of `c`, `k < 8` (once each): paid by `peer c`'s copy of its chunk `k`; hands over chunk `k` of the receive
  buffer, holding `peer c`'s exponentials.

A device waits on its barrier owing its peer the nine arrivals only, and on every arrival owing nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Rounds.Family
public import Idealize.ShloMosaic.Lib.Tactic

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

variable (m : (ℓ : Loc nD τ sig) → Buf (Elt F) ℓ) (ρ : Dev nD → PrngReg)

/-- The memory at launch: any contents, every semaphore at zero, any generator state. -/
def s₀ : MemSt nD τ sig (Elt F) := ⟨m, fun _ => 0, ρ⟩

/-! ## The pairing of the devices -/

/-- The device with the other first coordinate. -/
def peer (c : Dev nD) : Dev nD := ⟨(c.val + 2) % 4, Nat.mod_lt _ (by decide)⟩

theorem peer_peer (c : Dev nD) : peer (peer c) = c := by revert c; decide

/-- The pairing as a permutation. -/
def swap : Dev nD ≃ Dev nD := ⟨peer, peer, peer_peer, peer_peer⟩

/-- The destination every remote operation of the kernel computes. -/
theorem peer_of_val {c n : Dev nD} (h : n.val = c.val % 2 + 2 - 2 * (c.val / 2)) : n = peer c := by
  apply Fin.ext; rw [h]; clear h; revert c; decide

/-! ## The buffers and their chunks -/

abbrev xM : Memref sig .tc .vmem S512x1024 .f32 := Memref.whole cc0_stg0_0
abbrev oM : Memref sig .tc .vmem S512x16384 .f32 := Memref.whole cc0_stg1_0
abbrev wM : Memref sig .tc .hbm S1024x8192 .f32 := Memref.whole main_arg1
abbrev bM : Memref sig .tc .vmem S2x1024x1024 .f32 := Memref.whole cc0_scratch0
abbrev sM : Memref sig .tc .vmem S512x8192 .bf16 := Memref.whole cc0_scratch1
abbrev rM : Memref sig .tc .vmem S512x8192 .bf16 := Memref.whole cc0_scratch2
abbrev tM : Memref sig .tc .vmem S512x128 .f32 := Memref.whole cc0_scratch3
abbrev uM : Memref sig .tc .vmem S512x128 .f32 := Memref.whole cc0_scratch4

theorem inb_cols (k : Fin 8) : ∀ a, (![0, 1024 * k.val] : Fin 2 → ℕ) a + S512x1024.size a ≤ S512x8192.size a := by
  revert k; decide
theorem inb_wcols (k : Fin 8) : ∀ a, (![0, 1024 * k.val] : Fin 2 → ℕ) a + S1024x1024.size a ≤ S1024x8192.size a := by
  revert k; decide
theorem inb_slot (s : Fin 2) : ∀ a, (![s.val, 0, 0] : Fin 3 → ℕ) a + S1x1024x1024.size a ≤ S2x1024x1024.size a := by
  revert s; decide
theorem inb_out (b : Fin 16) : ∀ a, (![0, 1024 * b.val] : Fin 2 → ℕ) a + S512x1024.size a ≤ S512x16384.size a := by
  revert b; decide

/-- Columns `1024 k … 1024 k + 1023` of a 512 × 8192 buffer, -/
abbrev cols (k : Fin 8) : Rect S512x8192 := Rect.unit (s := S512x8192) ![0, 1024 * k.val] S512x1024.size (inb_cols k)
/-- of the weights, -/
abbrev wcols (k : Fin 8) : Rect S1024x8192 := Rect.unit (s := S1024x8192) ![0, 1024 * k.val] S1024x1024.size (inb_wcols k)
/-- of the result. -/
abbrev ocols (b : Fin 16) : Rect S512x16384 := Rect.unit (s := S512x16384) ![0, 1024 * b.val] S512x1024.size (inb_out b)
/-- Slot `s` of the double buffer. -/
abbrev slotR (s : Fin 2) : Rect S2x1024x1024 := Rect.unit (s := S2x1024x1024) ![s.val, 0, 0] S1x1024x1024.size (inb_slot s)

abbrev sV (k : Fin 8) : Memref sig .tc .vmem S512x1024 .bf16 := sM.slice (cols k) (fun _ => rfl)
abbrev rV (k : Fin 8) : Memref sig .tc .vmem S512x1024 .bf16 := rM.slice (cols k) (fun _ => rfl)
abbrev wV (k : Fin 8) : Memref sig .tc .hbm S1024x1024 .f32 := wM.slice (wcols k) (fun _ => rfl)
abbrev bV (s : Fin 2) : Memref sig .tc .vmem S1024x1024 .f32 :=
  (bM.slice (slotR s) (fun _ => rfl) : Memref sig .tc .vmem S1x1024x1024 .f32).squeeze S1024x1024 squeezes_S1x1024x1024_S1024x1024

/-- The slot weight chunk `k` lands in, and the round of that slot's semaphore it is. -/
abbrev slotOf (k : Fin 8) : Fin 2 := ⟨k.val % 2, Nat.mod_lt _ (by decide)⟩

/-! ## The semaphores -/

abbrev barS : Sem sig := (SemArray.scalar (sig.barrier 0 rfl) : Sems sig S_).sem
abbrev wS (s : Fin 2) : DmaSem sig := ⟨2 + s.val, by have := s.isLt; change 2 + s.val < 22; omega⟩
abbrev stS : DmaSem sig := ⟨4, by decide⟩
abbrev stR : DmaSem sig := ⟨5, by decide⟩
abbrev bS (k : Fin 8) : DmaSem sig := ⟨6 + k.val, by have := k.isLt; change 6 + k.val < 22; omega⟩
abbrev bR (k : Fin 8) : DmaSem sig := ⟨14 + k.val, by have := k.isLt; change 14 + k.val < 22; omega⟩

abbrev cell (c : Dev nD) (q : DmaSem sig) : GSem nD τ sig := ((c : Thread nD τ), .dma q)
abbrev barCell (c : Dev nD) : GSem nD τ sig := ((c : Thread nD τ), .reg barS)

/-- What a copy of a weight chunk, of a chunk of exponentials, of the row sums credits. -/
def NW : ℕ := (bV 0).view.dmaCredit
def NB : ℕ := (rV 0).view.dmaCredit
def NS : ℕ := uM.view.dmaCredit

theorem credit_bV (s : Fin 2) : (bV s).view.dmaCredit = NW := rfl
theorem credit_rV (k : Fin 8) : (rV k).view.dmaCredit = NB := rfl
theorem credit_sV (k : Fin 8) : (sV k).view.dmaCredit = NB := rfl
theorem credit_uM : uM.view.dmaCredit = NS := rfl
theorem credit_tM : tM.view.dmaCredit = NS := rfl

theorem NW_pos : 0 < NW := View.dmaCredit_pos _ (by decide)
theorem NB_pos : 0 < NB := View.dmaCredit_pos _ (by decide)
theorem NS_pos : 0 < NS := View.dmaCredit_pos _ (by decide)

/-! ## Contents -/

/-- The activations as staged. -/
def xstg (c : Dev nD) : (cc0_stg0_0 : Ref sig .tc).ty.Contents (Elt F) :=
  (win0_0.blk (0 : Fin 1)).view.read (Elt F) (m ((c : Thread nD τ).loc main_arg0))

/-- Chunk `k` of device `c`'s weights. -/
def wChunk (c : Dev nD) (k : Fin 8) : S1024x1024.Idx → Elt F .f32 := (wV k).view.read (Elt F) (m ((c : Thread nD τ).loc main_arg1))
/-- The same as loaded from a slot. -/
def wVec (c : Dev nD) (k : Fin 8) : Vec F S1x1024x1024 .f32 := fun y =>
  wChunk m c k ((Shape.reshapeEquiv (s := S1x1024x1024) (s' := S1024x1024) squeezes_S1x1024x1024_S1024x1024.numel_eq).symm y)
/-- The activations in the narrow format. -/
def xb (c : Dev nD) : FVec F S512x1024 .bf16 := k0_pay2 (xstg m c)
/-- Chunk `k` of device `c`'s exponentials. -/
def ex (c : Dev nD) (k : Fin 8) : FVec F S512x1024 .bf16 := k0_pay4 (xb m c) (wVec m c k)
/-- The row sums over the chunks before the `n`-th. -/
def rowSum (c : Dev nD) : ℕ → FVec F S512x1 .f32
  | 0 => k0_pay1
  | n + 1 => k0_pay5 (rowSum c n) (xb m c) (wVec m c (Fin.ofNat 8 n))
/-- The row sums, repeated along the lanes, as sent. -/
def stat (c : Dev nD) : FVec F S512x128 .f32 := k0_pay27 (xb m c) (rowSum m c 7) (wVec m c 7)
/-- The peer's row sums as loaded. -/
def statCol (c : Dev nD) : Vec F S512x1 .f32 :=
  uM.view.readAt (Elt F) (Rect.unit (s := S512x128) ![0, 0] S512x1.size inb_S512x128_S512x1_0_0).toLoadRect (stat m (peer c))
/-- One over the full row sums. -/
def inv (c : Dev nD) : FVec F S512x1 .f32 := k0_pay28 (rowSum m c 8) (statCol m c)

/-- The device whose weights column block `b` of the result belongs to, from `c` and its peer. -/
def owner (c : Dev nD) (b : Fin 16) : Dev nD := if b.val / 8 = c.val / 2 then c else peer c
/-- Column block `b` of device `c`'s result. -/
def outBlk (c : Dev nD) (b : Fin 16) : FVec F S512x1024 .f32 := k0_pay31 (inv m c) (ex m (owner c b) (Fin.ofNat 8 b.val))
/-- The column block of an index of the result, and the index within the block. -/
def blkOf (i : S512x16384.Idx) : Fin 16 := ⟨(i 1).val / 1024, by have : (i 1).val < 16384 := (i 1).isLt; omega⟩
def inBlk (i : S512x16384.Idx) : S512x1024.Idx := fun a => match a with
  | ⟨0, _⟩ => ⟨(i 0).val, (i 0).isLt⟩
  | ⟨1, _⟩ => ⟨(i 1).val % 1024, Nat.mod_lt _ (by decide)⟩
/-- Device `c`'s result. -/
def outAt (c : Dev nD) : (cc0_stg1_0 : Ref sig .tc).ty.Contents (Elt F) := fun i => outBlk m c (blkOf i) (inBlk i)

/-! ## What each landing hands over -/

/-- Chunk `k` of device `c`'s weights. -/
def wPts (c : Dev nD) (k : Fin 8) : sProp 𝕄 :=
  ((wV k).view.loc (c : Thread nD τ) ↦[(wV k).view.set]{fullShare} m ((c : Thread nD τ).loc main_arg1))

/-- A view of a buffer of device `c`, at any contents. -/
def anyAt (c : Dev nD) {s : Shape} {e : EltTy} (v : Memref sig .tc .vmem s e) : sProp 𝕄 :=
  iprop(∃ f, v.view.loc (c : Thread nD τ) ↦[v.view.set]{fullShare} f)

instance anyAt_storable (c : Dev nD) {s : Shape} {e : EltTy} (v : Memref sig .tc .vmem s e) :
    BI.Storable (upEmb : UEmb _ 𝕄) (anyAt (F := F) c v) := by unfold anyAt; infer_instance

def wPay (c : Dev nD) (k : Fin 8) : sProp 𝕄 :=
  iprop(owns (c : Thread nD τ) (bV (slotOf k)) fullShare (wChunk m c k) ∗ wPts m c k)
def barPay (c : Dev nD) : sProp 𝕄 :=
  iprop((bigSep Finset.univ fun k : Fin 8 => anyAt (peer c) (rV k)) ∗ anyAt (peer c) uM)
def stSPay (c : Dev nD) : sProp 𝕄 := owns (c : Thread nD τ) tM fullShare (stat m c)
def stRPay (c : Dev nD) : sProp 𝕄 := owns (c : Thread nD τ) uM fullShare (stat m (peer c))
def bSPay (c : Dev nD) (k : Fin 8) : sProp 𝕄 := owns (c : Thread nD τ) (sV k) fullShare.left (ex m c k)
def bRPay (c : Dev nD) (k : Fin 8) : sProp 𝕄 := owns (c : Thread nD τ) (rV k) fullShare (ex m (peer c) k)

instance wPay_storable (c : Dev nD) (k : Fin 8) : BI.Storable (upEmb : UEmb _ 𝕄) (wPay m c k) := by unfold wPay wPts; infer_instance
instance barPay_storable (c : Dev nD) : BI.Storable (upEmb : UEmb _ 𝕄) (barPay (F := F) c) := by unfold barPay; infer_instance
instance stSPay_storable (c : Dev nD) : BI.Storable (upEmb : UEmb _ 𝕄) (stSPay m c) := by unfold stSPay; infer_instance
instance stRPay_storable (c : Dev nD) : BI.Storable (upEmb : UEmb _ 𝕄) (stRPay m c) := by unfold stRPay; infer_instance
instance bSPay_storable (c : Dev nD) (k : Fin 8) : BI.Storable (upEmb : UEmb _ 𝕄) (bSPay m c k) := by unfold bSPay; infer_instance
instance bRPay_storable (c : Dev nD) (k : Fin 8) : BI.Storable (upEmb : UEmb _ 𝕄) (bRPay m c k) := by unfold bRPay; infer_instance

/-! ## The schedule -/

/-- How many rounds a semaphore has. -/
def roundsOf : SemLoc sig → ℕ
  | .reg s => if s = barS then 1 else 0
  | .dma q => if q.val < 2 then 0 else if q.val < 4 then 4 else 1

def payOf (c : Dev nD) (r : ℕ) : SemLoc sig → sProp 𝕄
  | .reg _ => barPay c
  | .dma q =>
    if q.val < 4 then wPay m c (Fin.ofNat 8 (2 * r + (q.val - 2)))
    else if q.val = 4 then stSPay m c
    else if q.val = 5 then stRPay m c
    else if q.val < 14 then bSPay m c (Fin.ofNat 8 (q.val - 6))
    else bRPay m c (Fin.ofNat 8 (q.val - 14))

def amountOf : SemLoc sig → ℕ
  | .reg _ => 1
  | .dma q => if q.val < 4 then NW else if q.val < 6 then NS else NB

/-- One duty a round. -/
def Rd : Rounds.Schedule (GSem nD τ sig) Unit 𝕄 where
  duties g r := if g.1.2 = .tc ∧ r < roundsOf g.2 then {()} else ∅
  unitless _ := False
  amount g _ _ := amountOf g.2
  payload g r _ := payOf m g.1.1 r g.2
  amount_pos g _ _ _ := by
    rcases g with ⟨_, q | q⟩
    · exact Nat.one_pos
    · dsimp only [amountOf]; split
      · exact NW_pos
      · split
        · exact NS_pos
        · exact NB_pos

instance Rd_payload_storable (g : GSem nD τ sig) (r : ℕ) (d : Unit) : BI.Storable (upEmb : UEmb _ 𝕄) ((Rd m).payload g r d) := by
  show BI.Storable upEmb (payOf m g.1.1 r g.2)
  rcases g with ⟨_, q | q⟩
  · unfold payOf; infer_instance
  · unfold payOf; (repeat' split) <;> infer_instance

theorem mem_duties {c : Dev nD} {sm : SemLoc sig} {r : ℕ} (h : r < roundsOf sm) :
    () ∈ (Rd m).duties ((c : Thread nD τ), sm) r := by
  dsimp only [Rd]; rw [if_pos ⟨rfl, h⟩]; exact Finset.mem_singleton_self _

theorem duties_later (c : Dev nD) (sm : SemLoc sig) {R : ℕ} (hR : roundsOf sm ≤ R) :
    ∀ r, R ≤ r → (Rd m).duties ((c : Thread nD τ), sm) r = ∅ :=
  fun r hr => by dsimp only [Rd]; rw [if_neg fun h => by omega]

theorem expect_eq {c : Dev nD} {sm : SemLoc sig} {r : ℕ} (h : r < roundsOf sm) :
    (Rd m).expect ((c : Thread nD τ), sm) r = amountOf sm := by
  unfold Schedule.expect Schedule.amountOf
  have : (Rd m).duties ((c : Thread nD τ), sm) r = {()} := by dsimp only [Rd]; rw [if_pos ⟨rfl, h⟩]
  rw [this, Finset.sum_singleton]; rfl

/-- What a wait for a whole round hands over. -/
theorem rest_eq {c : Dev nD} {sm : SemLoc sig} {r : ℕ} (h : r < roundsOf sm) :
    bigSep ((Rd m).duties ((c : Thread nD τ), sm) r \ ∅) (fun d => (Rd m).payload ((c : Thread nD τ), sm) r d) = payOf m c r sm := by
  have : (Rd m).duties ((c : Thread nD τ), sm) r = {()} := by dsimp only [Rd]; rw [if_pos ⟨rfl, h⟩]
  rw [Finset.sdiff_empty, this, bigSep_singleton]; rfl

theorem rounds_bar : roundsOf (.reg barS) = 1 := by unfold roundsOf; exact if_pos rfl
theorem rounds_w (s : Fin 2) : roundsOf (.dma (wS s)) = 4 := by
  have := s.isLt; dsimp only [roundsOf]; rw [if_neg (by omega), if_pos (by omega)]
theorem rounds_one {q : DmaSem sig} (h : 4 ≤ q.val) : roundsOf (.dma q) = 1 := by
  dsimp only [roundsOf]; rw [if_neg (by omega), if_neg (by omega)]

theorem amount_w (s : Fin 2) : amountOf (.dma (wS s)) = NW := by
  have := s.isLt; dsimp only [amountOf]; rw [if_pos (by omega)]
theorem amount_bS (k : Fin 8) : amountOf (.dma (bS k)) = NB := by
  dsimp only [amountOf]; rw [if_neg (by omega), if_neg (by omega)]
theorem amount_bR (k : Fin 8) : amountOf (.dma (bR k)) = NB := by
  dsimp only [amountOf]; rw [if_neg (by omega), if_neg (by omega)]

theorem pay_w (c : Dev nD) (k : Fin 8) : payOf m c (k.val / 2) (.dma (wS (slotOf k))) = wPay m c k := by
  have h : 2 * (k.val / 2) + (2 + k.val % 2 - 2) = k.val := by omega
  dsimp only [payOf]; rw [if_pos (by omega), h, Fin.ofNat_eq_cast, Fin.cast_val_eq_self]
theorem pay_bS (c : Dev nD) (k : Fin 8) : payOf m c 0 (.dma (bS k)) = bSPay m c k := by
  have h : 6 + k.val - 6 = k.val := by omega
  dsimp only [payOf]; rw [if_neg (by omega), if_neg (by omega), if_neg (by omega), if_pos (by omega), h, Fin.ofNat_eq_cast, Fin.cast_val_eq_self]
theorem pay_bR (c : Dev nD) (k : Fin 8) : payOf m c 0 (.dma (bR k)) = bRPay m c k := by
  have h : 14 + k.val - 14 = k.val := by omega
  dsimp only [payOf]; rw [if_neg (by omega), if_neg (by omega), if_neg (by omega), if_neg (by omega), h, Fin.ofNat_eq_cast, Fin.cast_val_eq_self]

/-! ## What each device owes; the levels -/

/-- The arrivals in the order they are sent: chunks 0 … 5, the row sums, chunks 6 and 7. -/
def arrive : Fin 9 → DmaSem sig := ![bR 0, bR 1, bR 2, bR 3, bR 4, bR 5, stR, bR 6, bR 7]

/-- What device `c` owes its peer with `j` arrivals left to send. -/
def owed (c : Dev nD) : ℕ → CellTallies nD τ sig Unit
  | 0 => 0
  | j + 1 => owed c j + tallyAt (cell (peer c) (arrive (Fin.ofNat 9 (8 - j)))) () (amountOf (.dma (arrive (Fin.ofNat 9 (8 - j)))))
/-- What it owes at launch: the barrier unit besides. -/
def O₀ (c : Dev nD) : CellTallies nD τ sig Unit := owed c 9 + tallyAt (barCell (peer c)) () 1

def L (g : GSem nD τ sig) : Finset Unit := if g.1.2 = .tc then {()} else ∅
/-- Barriers at 1, arrivals at 2, everything else at 0. -/
def lvS : SemLoc sig → ℕ
  | .reg _ => 1
  | .dma q => if q.val = 5 ∨ 14 ≤ q.val then 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_arrive (i : Fin 9) : lvS (.dma (arrive i)) = 2 := by revert i; decide

theorem lv_w (s : Fin 2) : lvS (.dma (wS s)) < 2 := by revert s; decide

theorem owed_pos {c : Dev nD} {g : GSem nD τ sig} {u : Unit} : ∀ {j : ℕ}, 0 < owed c j g u → g.1 = (peer c : Thread nD τ) ∧ lvS g.2 = 2
  | 0, h => absurd h (Nat.lt_irrefl 0)
  | j + 1, h => by
    unfold owed at h
    rw [Pi.add_apply, Finsupp.add_apply, tallyAt_apply] at h
    by_cases hg : g = cell (peer c) (arrive (Fin.ofNat 9 (8 - j))) ∧ u = ()
    · rw [hg.1]; exact ⟨rfl, lv_arrive _⟩
    · rw [if_neg hg, Nat.add_zero] at h; exact owed_pos h

theorem O₀_pos {c : Dev nD} {g : GSem nD τ sig} {u : Unit} (h : 0 < O₀ c g u) : g.1 = (peer c : Thread nD τ) ∧ 1 ≤ lvS g.2 := by
  unfold O₀ at h
  rw [Pi.add_apply, Finsupp.add_apply, tallyAt_apply] at h
  by_cases hg : g = barCell (peer c) ∧ u = ()
  · rw [hg.1]; exact ⟨rfl, le_refl _⟩
  · rw [if_neg hg, Nat.add_zero] at h; exact ⟨(owed_pos h).1, by rw [(owed_pos h).2]; decide⟩

/-- A device may wait below what it owes. -/
theorem mayWait_of (c : Dev nD) (sm : SemLoc sig) (O : CellTallies nD τ sig Unit)
    (h : ∀ (g : GSem nD τ sig) (u : Unit), 0 < O g u → g.1 = (peer c : Thread nD τ) ∧ lvS sm < lvS g.2) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by
      obtain ⟨h1, -⟩ := h g u hg
      unfold L; rw [h1]; exact Finset.mem_singleton_self _)
    (fun p hp => by rw [Finset.mem_singleton.mp hp]; exact le_refl _)
    (fun g u hg => (h g u hg).2)

theorem mayWait_owed (c : Dev nD) (sm : SemLoc sig) (j : ℕ) (h : lvS sm < 2) :
    (levAts L lv : sProp 𝕄) ⊢ MayWait (c : Thread nD τ) sm () (owed c j) :=
  mayWait_of c sm _ fun g u hg => ⟨(owed_pos hg).1, by rw [(owed_pos hg).2]; exact h⟩

theorem mayWait_start (c : Dev nD) (sm : SemLoc sig) (h : lvS sm = 0) :
    (levAts L lv : sProp 𝕄) ⊢ MayWait (c : Thread nD τ) sm () (O₀ c) :=
  mayWait_of c sm _ fun g u hg => ⟨(O₀_pos hg).1, by rw [h]; exact (O₀_pos hg).2⟩

/-! ## The cells' records -/

/-- The kernel's own semaphores by what they are for: chunks read, chunks arrived, weights, row sums (read, arrived); -/
abbrev OI : Type := Fin 8 ⊕ Fin 8 ⊕ Fin 2 ⊕ Fin 2
/-- and all the exchange's: the barrier besides. -/
abbrev CI : Type := OI ⊕ Unit
def osem : OI → SemLoc sig
  | .inl k => .dma (bS k)
  | .inr (.inl k) => .dma (bR k)
  | .inr (.inr (.inl s)) => .dma (wS s)
  | .inr (.inr (.inr i)) => .dma ⟨4 + i.val, by have := i.isLt; change 4 + i.val < 22; omega⟩
def csem : CI → SemLoc sig
  | .inl i => osem i
  | .inr _ => .reg barS
def kcell (ck : Dev nD × CI) : GSem nD τ sig := ((ck.1 : Thread nD τ), csem ck.2)

/-- Every cell's invariant, at the names `K`, and that each has been reached; with the levels. -/
def records (K : Dev nD × CI → ℕ) : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance records_persistent (K : Dev nD × CI → ℕ) : BI.Persistent (records m K) := by unfold records; infer_instance

/-- The place of a semaphore among the exchange's. -/
def placeOf : SemLoc sig → CI
  | .reg _ => .inr ()
  | .dma q =>
    if q.val < 4 then .inl (.inr (.inr (.inl (Fin.ofNat 2 q.val))))
    else if q.val < 6 then .inl (.inr (.inr (.inr (Fin.ofNat 2 q.val))))
    else if q.val < 14 then .inl (.inl (Fin.ofNat 8 (q.val - 6)))
    else .inl (.inr (.inl (Fin.ofNat 8 (q.val - 14))))

theorem csem_place (q : DmaSem sig) (h : 2 ≤ q.val) : csem (placeOf (.dma q)) = .dma q := by revert q; decide
theorem kcell_dma (c : Dev nD) {q : DmaSem sig} (h : 2 ≤ q.val) : kcell (c, placeOf (.dma q)) = cell c q := by
  unfold kcell; rw [csem_place q h]
theorem kcell_bar (c : Dev nD) : kcell (c, placeOf (.reg barS)) = barCell c := rfl

theorem records_inv (K : Dev nD × CI → ℕ) (ck : Dev nD × CI) :
    records m K ⊢ cellInv ER (Rd m) (K ck) (kcell ck) := by
  unfold records; exact sep_elim_left.trans (bigSep_elim (Finset.mem_univ ck))
theorem records_reached (K : Dev nD × CI → ℕ) (ck : Dev nD × CI) :
    records m K ⊢ reached ER (kcell ck) 0 := by
  unfold records; exact sep_elim_right.trans (sep_elim_left.trans (bigSep_elim (Finset.mem_univ ck)))
theorem records_lev (K : Dev nD × CI → ℕ) : records m K ⊢ levAts L lv := by
  unfold records; exact sep_elim_right.trans sep_elim_right

theorem inv_dma (K : Dev nD × CI → ℕ) (c : Dev nD) {q : DmaSem sig} (h : 2 ≤ q.val) :
    records m K ⊢ cellInv ER (Rd m) (K (c, placeOf (.dma q))) (cell c q) := by
  have := records_inv m K (c, placeOf (.dma q)); rwa [kcell_dma c h] at this
theorem inv_bar (K : Dev nD × CI → ℕ) (c : Dev nD) :
    records m K ⊢ cellInv ER (Rd m) (K (c, placeOf (.reg barS))) (barCell c) := records_inv m K (c, placeOf (.reg barS))
theorem reached_dma (K : Dev nD × CI → ℕ) (c : Dev nD) {q : DmaSem sig} (h : 2 ≤ q.val) :
    records m K ⊢ reached ER (cell c q) 0 := by
  have := records_reached m K (c, placeOf (.dma q)); rwa [kcell_dma c h] at this
theorem reached_bar (K : Dev nD × CI → ℕ) (c : Dev nD) :
    records m K ⊢ reached ER (barCell c) 0 := records_reached m K (c, placeOf (.reg barS))

end Cert.Softmax

end
-- ==== Proof.Steps.lean ====
/-
# The kernel's operations under the exchange protocol

One lemma for every kind of memory operation the kernel performs, at any chunk: what it needs, and what it leaves. The
printed body is a run of these.
-/
module

public import proofs.«01_k».proof.Proof.Proto

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whatever it has waited on. -/
def OW (c : Dev nD) (O : CellTallies nD τ sig Unit) : sProp 𝕄 := iprop(∃ W, owes (c : Thread nD τ) O W)

/-! ## Sets of elements and shares -/

theorem access_subset {sp : Space} {s : Shape} {e : EltTy} (M : Memref sig .tc sp s e) (r : Rect s) :
    M.view.setOn r.set ⊆ (M.view.slice r).set := by rw [View.set_slice]; exact subset_refl _

theorem store_subset {sp : Space} {s : Shape} {e : EltTy} (M : Memref sig .tc sp s e) (r : Rect s) (Mk : Finset r.shape.Idx) :
    (M.access r).setOn Mk ⊆ (M.access r).set := Finset.map_subset_map.mpr (Finset.subset_univ Mk)

/-- A view held whole is held in two halves. -/
theorem owns_halves (c : Dev nD) {sp : Space} {s : Shape} {e : EltTy} (v : Memref sig .tc sp s e) (X : s.Idx → Elt F e) :
    (owns (c : Thread nD τ) v fullShare X : sProp 𝕄) ⊢ iprop(owns (c : Thread nD τ) v fullShare.left X ∗ owns (c : Thread nD τ) v fullShare.right X) := by
  unfold owns
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

/-- Two halves read alike make the whole. -/
theorem owns_join (c : Dev nD) {sp : Space} {s : Shape} {e : EltTy} (v : Memref sig .tc sp s e) (X : s.Idx → Elt F e) :
    (iprop(owns (c : Thread nD τ) v fullShare.left X ∗ owns (c : Thread nD τ) v fullShare.right X) : sProp 𝕄)
      ⊢ ∃ f, v.view.loc (c : Thread nD τ) ↦[v.view.set]{fullShare} f := by
  unfold owns
  iintro ⟨⟨%f, %hf, H1⟩, ⟨%g, %hg, H2⟩⟩
  have hfg : ∀ i ∈ v.view.set, f i = g i := by
    intro i hi
    obtain ⟨x, -, rfl⟩ := Finset.mem_map.mp hi
    exact eq_of_heq ((cast_heq _ _).symm.trans ((heq_of_eq (congrFun (hf.trans hg.symm) x)).trans (cast_heq _ _)))
  ihave H1' := (Entails.of_eq (pointsTo_congr hfg)) $$ H1
  iexists g
  iapply (pointsTo_share (PosShare.mem_left_op_right fullShare)).2
  isplitl [H1']; · iexact H1'
  iexact H2

/-! ## Weight chunks -/

abbrev wcell (c : Dev nD) (k : Fin 8) : GSem nD τ sig := cell c (wS (slotOf k))

/-- The slot of chunk `k` is free, its semaphore before the round of `k`. -/
def WIdle (c : Dev nD) (k : Fin 8) : sProp 𝕄 :=
  iprop(atPos ER (wcell c k) (k.val / 2) ∅ 0 ∗ reached ER (wcell c k) (k.val / 2) ∗ anyAt c (bV (slotOf k)))
/-- Chunk `k` is on its way. -/
def WBusy (c : Dev nD) (k : Fin 8) : sProp 𝕄 :=
  iprop(atPos ER (wcell c k) (k.val / 2) ∅ 0 ∗ cred (tallyAt (wcell c k) () NW))
/-- Chunk `k` is in its slot. -/
def WFull (c : Dev nD) (k : Fin 8) : sProp 𝕄 :=
  iprop(atPos ER (wcell c k) (k.val / 2 + 1) ∅ 0 ∗ reached ER (wcell c k) (k.val / 2 + 1)
    ∗ owns (c : Thread nD τ) (bV (slotOf k)) fullShare (wChunk m c k))
/-- What chunk `k`'s copy takes: the chunk and the right to make it. -/
def WTake (c : Dev nD) (k : Fin 8) : sProp 𝕄 := iprop(wPts m c k ∗ dutyTok ER (wcell c k) (k.val / 2) ())

theorem owns_any (c : Dev nD) {s : Shape} {e : EltTy} (v : Memref sig .tc .vmem s e) (X : s.Idx → Elt F e) :
    (owns (c : Thread nD τ) v fullShare X : sProp 𝕄) ⊢ anyAt c v := by
  unfold owns anyAt; iintro ⟨%f, -, H⟩; iexists f; iexact H

theorem full_idle (c : Dev nD) (k k' : Fin 8) (h : k'.val = k.val + 2) : WFull m c k ⊢ WIdle c k' := by
  have h1 : slotOf k' = slotOf k := Fin.ext (by show k'.val % 2 = k.val % 2; omega)
  have h2 : k'.val / 2 = k.val / 2 + 1 := by omega
  unfold WFull WIdle wcell; rw [h1, h2]
  iintro ⟨Ha, Hr, Ho⟩
  isplitl [Ha]; · iexact Ha
  isplitl [Hr]; · iexact Hr
  iapply (owns_any c (bV (slotOf k)) (wChunk m c k)); iexact Ho

theorem rounds_lt (k : Fin 8) : k.val / 2 < roundsOf (.dma (wS (slotOf k))) := by rw [rounds_w]; omega

section Ops

variable {α : Type} {Q : α → sProp (MT nD τ sig Unit (Elt F) ℕ UU ℕ)} (c : Dev nD)

/-- What the copy of weight chunk `k` leaves is its payload. -/
theorem land_w (k : Fin 8) (f : Buf (Elt F) ((bV (slotOf k)).view.loc (c : Thread nD τ))) :
    (iprop(((bV (slotOf k)).view.loc (c : Thread nD τ) ↦[(bV (slotOf k)).view.set]{fullShare}
          (bV (slotOf k)).view.write (Elt F) f ((wV k).view.read (Elt F) (m ((c : Thread nD τ).loc main_arg1))) Finset.univ)
        ∗ ((wV k).view.loc (c : Thread nD τ) ↦[(wV k).view.set]{fullShare} m ((c : Thread nD τ).loc main_arg1))) : sProp 𝕄)
      ⊢ (Rd m).payload (cell c (wS (slotOf k))) (k.val / 2) () := by
  show _ ⊢ payOf m c (k.val / 2) (.dma (wS (slotOf k)))
  rw [pay_w]; unfold wPay wPts owns
  iintro ⟨Hb, Hw⟩
  isplitl [Hb]
  · iexists (bV (slotOf k)).view.write (Elt F) f ((wV k).view.read (Elt F) (m ((c : Thread nD τ).loc main_arg1))) Finset.univ
    isplitr; · ipureintro; exact View.read_write_univ _ _
    iexact Hb
  · iexact Hw

/-- What the copy of chunk `k` of the exponentials has read, -/
theorem read_big (k : Fin 8) (fs : Buf (Elt F) ((sV k).view.loc (c : Thread nD τ))) (hfs : (sV k).view.read (Elt F) fs = ex m c k) :
    ((sV k).view.loc (c : Thread nD τ) ↦[(sV k).view.set]{fullShare.left} fs : sProp 𝕄) ⊢ (Rd m).payload (cell c (bS k)) 0 () := by
  show _ ⊢ payOf m c 0 (.dma (bS k))
  rw [pay_bS]; unfold bSPay owns
  iintro Hs; iexists fs; isplitr; · ipureintro; exact hfs
  iexact Hs

/-- and what it has written, are the payloads. -/
theorem land_big (k : Fin 8) (fs : Buf (Elt F) ((sV k).view.loc (c : Thread nD τ))) (hfs : (sV k).view.read (Elt F) fs = ex m c k)
    (fd : Buf (Elt F) ((rV k).view.loc (peer c : Thread nD τ))) :
    ((rV k).view.loc (peer c : Thread nD τ) ↦[(rV k).view.set]{fullShare}
        (rV k).view.write (Elt F) fd ((sV k).view.read (Elt F) fs) Finset.univ : sProp 𝕄) ⊢ (Rd m).payload (cell (peer c) (bR k)) 0 () := by
  show _ ⊢ payOf m (peer c) 0 (.dma (bR k))
  rw [pay_bR, hfs]; unfold bRPay owns; rw [peer_peer]
  iintro Hd; iexists (rV k).view.write (Elt F) fd (ex m c k) Finset.univ
  isplitr; · ipureintro; exact View.read_write_univ _ _
  iexact Hd

theorem read_stat (fs : Buf (Elt F) (tM.view.loc (c : Thread nD τ))) (hfs : tM.view.read (Elt F) fs = stat m c) :
    (tM.view.loc (c : Thread nD τ) ↦[tM.view.set]{fullShare} fs : sProp 𝕄) ⊢ (Rd m).payload (cell c stS) 0 () := by
  show _ ⊢ stSPay m c
  unfold stSPay owns
  iintro Hs; iexists fs; isplitr; · ipureintro; exact hfs
  iexact Hs

theorem land_stat (fs : Buf (Elt F) (tM.view.loc (c : Thread nD τ))) (hfs : tM.view.read (Elt F) fs = stat m c)
    (fd : Buf (Elt F) (uM.view.loc (peer c : Thread nD τ))) :
    (uM.view.loc (peer c : Thread nD τ) ↦[uM.view.set]{fullShare}
        uM.view.write (Elt F) fd (tM.view.read (Elt F) fs) Finset.univ : sProp 𝕄) ⊢ (Rd m).payload (cell (peer c) stR) 0 () := by
  show _ ⊢ stRPay m (peer c)
  rw [hfs]; unfold stRPay owns; rw [peer_peer]
  iintro Hd; iexists uM.view.write (Elt F) fd (stat m c) Finset.univ
  isplitr; · ipureintro; exact View.read_write_univ (v := uM.view) fd (stat m c)
  iexact Hd

/-- The copy of weight chunk `k` into its slot starts. -/
theorem wp_start_w (k : Fin 8) {hsrc : (wV k).view.WordExact} {hdst : (bV (slotOf k)).view.WordExact}
    {hsem : DmaTarget.Typed .hbm (.dma (wS (slotOf k))) (DmaTarget.here (nD := nD) (p := (c : Thread nD τ).2) (bV (slotOf k)))}
    {p : PUnit → Prog (TpuEff nD τ sig (Elt F) Λ₀ .tc) α} :
    iprop(records m K ∗ WIdle c k ∗ WTake m c k)
      ⊢ iprop((WBusy c k -∗ WP c (p ⟨⟩) Q)
          -∗ WP c (.op (.enqueueDma (wV k) (.here (bV (slotOf k))) (.dma (wS (slotOf k))) hsrc hdst hsem) p) Q) := by
  unfold WIdle WTake anyAt wPts
  iintro ⟨#HR, ⟨Ha, Hr, %f, Hb⟩, Hw, Ht⟩ Hk
  have hpay := land_w m c k f
  iapply (Rounds.wp_copy_pointsTo 𝒱₀ ER (Rd m) (c : Thread nD τ) none (src := wV k) (dst := bV (slotOf k)) (sem := .dma (wS (slotOf k)))
      (κ := K (c, placeOf (.dma (wS (slotOf k))))) (r := k.val / 2) (d := ()) (fd := f)
      (mem_duties m (rounds_lt k)) () NW (credit_bV _) (amount_w (slotOf k)) hpay) $$ [Hr Hb Hw Ht]
  · isplitr; · iapply (inv_dma m K c (by simp)); iexact HR
    isplitl [Hw]; · iexact Hw
    isplitl [Hb]; · iexact Hb
    isplitl [Ht]; · iexact Ht
    iexact Hr
  iintro Hc
  iapply Hk
  unfold WBusy
  isplitl [Ha]; · iexact Ha
  iexact Hc

/-- The wait for weight chunk `k`. -/
theorem wp_wait_w (k : Fin 8) (j : ℕ) {hsrc : (wV k).view.WordExact} {hdst : (bV (slotOf k)).view.WordExact}
    {p : PUnit → Prog (TpuEff nD τ sig (Elt F) Λ₀ .tc) α} :
    iprop(records m K ∗ WBusy c k ∗ OW c (owed c j))
      ⊢ iprop((WFull m c k ∗ wPts m c k ∗ OW c (owed c j) -∗ WP c (p ⟨⟩) Q)
          -∗ WP c (.op (.waitDma2 (wS (slotOf k)) (wV k) (bV (slotOf k)) hsrc hdst) p) Q) := by
  unfold WBusy OW
  iintro ⟨#HR, ⟨Ha, Hc⟩, %W, HO⟩ Hk
  iapply (Rounds.wp_wait_rest_token 𝒱₀ ER (Rd m) (c : Thread nD τ) none (κ := K (c, placeOf (.dma (wS (slotOf k)))))
      (wpE_waitDma2_eq 𝒱₀ (c : Thread nD τ) none Set.univ) (Set.mem_univ _) () (O := owed c j) (W := W) (R := k.val / 2) (m := 0) (T := ∅)
      (by rw [expect_eq m (rounds_lt k), amount_w, Nat.zero_add]; exact credit_bV _)) $$ [Ha Hc HO]
  · isplitr; · iapply (inv_dma m K c (by simp)); iexact HR
    isplitl [Hc]; · iexact Hc
    isplitl [HO]; · iexact HO
    isplitr
    · iapply (mayWait_owed c (.dma (wS (slotOf k))) j (lv_w _))
      iapply (records_lev m K); iexact HR
    iexact Ha
  iintro ⟨HO, Ha, Hr, Hp⟩
  ihave Hp2 := (Entails.of_eq (rest_eq m (c := c) (rounds_lt k))) $$ Hp
  ihave Hp3 := (Entails.of_eq (pay_w m c k)) $$ Hp2
  unfold wPay
  icases Hp3 with ⟨Hb, Hw⟩
  iapply Hk
  unfold WFull
  isplitl [Ha Hr Hb]
  · isplitl [Ha]; · iexact Ha
    isplitl [Hr]; · iexact Hr
    iexact Hb
  isplitl [Hw]; · iexact Hw
  iexists _; iexact HO

/-- The load of weight chunk `k` from its slot. -/
theorem wp_load_w (k : Fin 8) {hl : bM.view.LoadsAt (slotR (slotOf k)).toLoadRect}
    {p : Vec F S1x1024x1024 .f32 → Prog (TpuEff nD τ sig (Elt F) Λ₀ .tc) α} :
    WFull m c k ⊢ iprop((WFull m c k -∗ WP c (p (wVec m c k)) Q) -∗ WP c (.op (.load bM (slotR (slotOf k)).toLoadRect hl) p) Q) := by
  unfold WFull owns
  iintro ⟨Ha, Hr, %f, %hf, Hb⟩ Hk
  have hv : bM.view.readAt (Elt F) (slotR (slotOf k)).toLoadRect f = wVec m c k := by
    funext y; unfold wVec; rw [← hf]
    show _ = bM.view.readAt (Elt F) (slotR (slotOf k)).toLoadRect f
      (Shape.reshapeEquiv (s := S1x1024x1024) (s' := S1024x1024) squeezes_S1x1024x1024_S1024x1024.numel_eq _)
    rw [Equiv.apply_symm_apply]
  iapply (wp_load 𝒱₀ (c : Thread nD τ) none Set.univ (m := bM) (r := (slotR (slotOf k)).toLoadRect) (S := (bV (slotOf k)).view.set) (f := f)
    (by rw [View.set_reshape]; exact access_subset _ _)) $$ [Hb]
  · iexact Hb
  iintro Hb
  rw [hv]
  iapply Hk
  isplitl [Ha]; · iexact Ha
  isplitl [Hr]; · iexact Hr
  iexists f; isplitr; · ipureintro; exact hf
  iexact Hb

/-! ## Columns of the buffers of exponentials -/

/-- A load of a chunk of columns yields what is held there. -/
theorem wp_load_cols (M : Memref sig .tc .vmem S512x8192 .bf16) (k : Fin 8) (q : PosShare TreeShare) (X : FVec F S512x1024 .bf16)
    {hl : M.view.LoadsAt (cols k).toLoadRect} {p : Vec F S512x1024 .bf16 → Prog (TpuEff nD τ sig (Elt F) Λ₀ .tc) α} :
    owns (c : Thread nD τ) (M.slice (cols k) (fun _ => rfl)) q X
      ⊢ iprop((owns (c : Thread nD τ) (M.slice (cols k) (fun _ => rfl)) q X -∗ WP c (p X) Q) -∗ WP c (.op (.load M (cols k).toLoadRect hl) p) Q) := by
  unfold owns
  iintro ⟨%f, %hf, Hb⟩ Hk
  have hv : M.view.readAt (Elt F) (cols k).toLoadRect f = X := hf
  iapply (wp_load 𝒱₀ (c : Thread nD τ) none Set.univ (m := M) (r := (cols k).toLoadRect) (S := (M.slice (cols k) (fun _ => rfl)).view.set) (f := f)
    (access_subset M (cols k))) $$ [Hb]
  · iexact Hb
  iintro Hb
  rw [hv]
  iapply Hk
  iexists f; isplitr; · ipureintro; exact hf
  iexact Hb

/-- A load whose value is not used. -/
theorem wp_load_any {s : Shape} {e : EltTy} (M : Memref sig .tc .vmem s e) (r : Rect s) (hr : ∀ a, r.stride a = 1)
    {hl : M.view.LoadsAt r.toLoadRect} {p : (r.shape.Idx → Elt F e) → Prog (TpuEff nD τ sig (Elt F) Λ₀ .tc) α} :
    (anyAt c (M.slice r hr) : sProp 𝕄)
      ⊢ iprop((∀ v, anyAt c (M.slice r hr) -∗ WP c (p v) Q) -∗ WP c (.op (.load M r.toLoadRect hl) p) Q) := by
  unfold anyAt
  iintro ⟨%f, Hb⟩ Hk
  iapply (wp_load 𝒱₀ (c : Thread nD τ) none Set.univ (m := M) (r := r.toLoadRect) (S := (M.slice r hr).view.set) (f := f)
    (access_subset M r)) $$ [Hb]
  · iexact Hb
  iintro Hb
  iapply Hk
  iexists f
  iexact Hb

/-- A store over a whole rectangle. -/
theorem wp_store_rect {s : Shape} {e : EltTy} (M : Memref sig .tc .vmem s e) (r : Rect s) (hr : ∀ a, r.stride a = 1) (w : r.shape.Idx → Elt F e)
    {hx : (M.access r).Stores Finset.univ} {hm : (Finset.univ : Finset r.shape.Idx) = Finset.univ ∨ ∀ a, r.stride a = 1}
    {p : PUnit → Prog (TpuEff nD τ sig (Elt F) Λ₀ .tc) α} :
    (anyAt c (M.slice r hr) : sProp 𝕄)
      ⊢ iprop((owns (c : Thread nD τ) (M.slice r hr) fullShare w -∗ WP c (p ⟨⟩) Q) -∗ WP c (.op (.store M r w Finset.univ hx hm) p) Q) := by
  unfold anyAt owns
  iintro ⟨%f, Hb⟩ Hk
  iapply (wp_store 𝒱₀ (c : Thread nD τ) none Set.univ (m := M) (r := r) (Mk := Finset.univ) (S := (M.slice r hr).view.set) (f := f)
    (store_subset M r Finset.univ)) $$ [Hb]
  · iexact Hb
  iintro Hb
  iapply Hk
  iexists (M.access r).write (Elt F) f w Finset.univ
  isplitr; · ipureintro; exact View.read_write_univ (v := M.access r) f w
  iexact Hb

/-! ## The remote copies -/

/-- Both duties of the copy of chunk `k`: the source read, the destination written. -/
def BTake (c : Dev nD) (k : Fin 8) : sProp 𝕄 :=
  iprop(dutyTok ER (cell c (bS k)) 0 () ∗ dutyTok ER (cell (peer c) (bR k)) 0 () ∗ anyAt (peer c) (rV k))

/-- The copy of chunk `k` of the exponentials to the peer starts. -/
theorem wp_send_big (k : Fin 8) (j : ℕ) (n : Dev nD) (hn : n = peer c)
    (hO : owed c (j + 1) = owed c j + tallyAt (cell (peer c) (bR k)) () NB)
    {hsc : (rV k).view.ref.isScScratch = false} {hsrc : (sV k).view.WordExact} {hdst : (rV k).view.WordExact}
    {hsem : DmaTarget.Typed .vmem (.dma (bR k)) (DmaTarget.remote (p := (c : Thread nD τ).2) (Dev.tc n : Thread nD τ) (rV k) (.dma (bS k)) hsc)}
    {p : PUnit → Prog (TpuEff nD τ sig (Elt F) Λ₀ .tc) α} :
    iprop(records m K ∗ owns (c : Thread nD τ) (sV k) fullShare (ex m c k) ∗ BTake c k ∗ OW c (owed c (j + 1)))
      ⊢ iprop((cred (tallyAt (cell c (bS k)) () NB) ∗ owns (c : Thread nD τ) (sV k) fullShare.right (ex m c k) ∗ OW c (owed c j) -∗ WP c (p ⟨⟩) Q)
          -∗ WP c (.op (.enqueueDma (sV k) (.remote (Dev.tc n : Thread nD τ) (rV k) (.dma (bS k)) hsc) (.dma (bR k)) hsrc hdst hsem) p) Q) := by
  subst hn
  unfold BTake anyAt OW
  iintro ⟨#HR, Hs, ⟨Ht1, Ht2, %fd, Hd⟩, %W, HO⟩ Hk
  ihave Hs2 := (owns_halves c (sV k) (ex m c k)) $$ Hs
  icases Hs2 with ⟨Hs1, Hs2⟩
  unfold owns
  icases Hs1 with ⟨%fs, %hfs, Hs1⟩
  iapply (Rounds.wp_send_pointsTo 𝒱₀ ER (Rd m) (c : Thread nD τ) none (src := sV k) (dst := rV k) (sS := .dma (bS k)) (sem := .dma (bR k)) (κ₁ := K (c, placeOf (.dma (bS k)))) (κ₂ := K (peer c, placeOf (.dma (bR k))))
      (c' := (peer c : Thread nD τ)) (r₁ := 0) (r₂ := 0) (d₁ := ()) (d₂ := ()) (fs := fs) (fd := fd) (q := fullShare.left)
      (mem_duties m (by rw [rounds_one (by simp; omega)]; decide)) (mem_duties m (by rw [rounds_one (by simp; omega)]; decide))
      () () NB (credit_rV k) (amount_bS k) (amount_bR k) (owed c j) hO (W := W)
      (read_big m c k fs hfs) (land_big m c k fs hfs fd)) $$ [Hs1 Hd HO Ht1 Ht2]
  · isplitr; · iapply (inv_dma m K c (q := bS k) (by simp; omega)); iexact HR
    isplitr; · iapply (inv_dma m K (peer c) (q := bR k) (by simp; omega)); iexact HR
    isplitl [Hs1]; · iexact Hs1
    isplitl [Hd]; · iexact Hd
    isplitl [HO]; · iexact HO
    isplitl [Ht1]; · iexact Ht1
    isplitr; · iapply (reached_dma m K c (q := bS k) (by simp; omega)); iexact HR
    isplitl [Ht2]; · iexact Ht2
    iapply (reached_dma m K (peer c) (q := bR k) (by simp; omega)); iexact HR
  iintro ⟨Hc, HO⟩
  iapply Hk
  isplitl [Hc]; · iexact Hc
  isplitl [Hs2]; · iexact Hs2
  iexists W; iexact HO

/-- The copy of the row sums to the peer starts. -/
theorem wp_send_stat (n : Dev nD) (hn : n = peer c)
    {hsc : uM.view.ref.isScScratch = false} {hsrc : tM.view.WordExact} {hdst : uM.view.WordExact}
    {hsem : DmaTarget.Typed .vmem (.dma stR) (DmaTarget.remote (p := (c : Thread nD τ).2) (Dev.tc n : Thread nD τ) uM (.dma stS) hsc)}
    {p : PUnit → Prog (TpuEff nD τ sig (Elt F) Λ₀ .tc) α} :
    iprop(records m K ∗ owns (c : Thread nD τ) tM fullShare (stat m c)
        ∗ (dutyTok ER (cell c stS) 0 () ∗ dutyTok ER (cell (peer c) stR) 0 () ∗ anyAt (peer c) uM) ∗ OW c (owed c 3))
      ⊢ iprop((cred (tallyAt (cell c stS) () NS) ∗ OW c (owed c 2) -∗ WP c (p ⟨⟩) Q)
          -∗ WP c (.op (.enqueueDma tM (.remote (Dev.tc n : Thread nD τ) uM (.dma stS) hsc) (.dma stR) hsrc hdst hsem) p) Q) := by
  subst hn
  unfold anyAt OW owns
  iintro ⟨#HR, ⟨%fs, %hfs, Hs⟩, ⟨Ht1, Ht2, %fd, Hd⟩, %W, HO⟩ Hk
  iapply (Rounds.wp_send_pointsTo 𝒱₀ ER (Rd m) (c : Thread nD τ) none (src := tM) (dst := uM) (sS := .dma stS) (sem := .dma stR) (κ₁ := K (c, placeOf (.dma stS))) (κ₂ := K (peer c, placeOf (.dma stR)))
      (c' := (peer c : Thread nD τ)) (r₁ := 0) (r₂ := 0) (d₁ := ()) (d₂ := ()) (fs := fs) (fd := fd) (q := fullShare)
      (mem_duties m (by rw [rounds_one (by decide)]; decide)) (mem_duties m (by rw [rounds_one (by decide)]; decide))
      () () NS credit_uM rfl rfl (owed c 2) rfl (W := W)
      (read_stat m c fs hfs) (land_stat m c fs hfs fd)) $$ [Hs Hd HO Ht1 Ht2]
  · isplitr; · iapply (inv_dma m K c (q := stS) (by decide)); iexact HR
    isplitr; · iapply (inv_dma m K (peer c) (q := stR) (by decide)); iexact HR
    isplitl [Hs]; · iexact Hs
    isplitl [Hd]; · iexact Hd
    isplitl [HO]; · iexact HO
    isplitl [Ht1]; · iexact Ht1
    isplitr; · iapply (reached_dma m K c (q := stS) (by decide)); iexact HR
    isplitl [Ht2]; · iexact Ht2
    iapply (reached_dma m K (peer c) (q := stR) (by decide)); iexact HR
  iintro ⟨Hc, HO⟩
  iapply Hk
  isplitl [Hc]; · iexact Hc
  iexists W; iexact HO

/-! ## Waits on the exchange's one-round semaphores -/

/-- A wait for the single round of `q`, owing nothing. -/
theorem wp_wait_one (q : DmaSem sig) (hq : 4 ≤ q.val) {sp sp' : Space} {s : Shape} {e : EltTy}
    (vs : Memref sig .tc sp s e) (vd : Memref sig .tc sp' s e) (hA : vd.view.dmaCredit = amountOf (.dma q))
    {hsrc : vs.view.WordExact} {hdst : vd.view.WordExact} {p : PUnit → Prog (TpuEff nD τ sig (Elt F) Λ₀ .tc) α} :
    iprop(records m K ∗ (cred (tallyAt (cell c q) () vd.view.dmaCredit) ∗ atPos ER (cell c q) 0 ∅ 0) ∗ OW c 0)
      ⊢ iprop((payOf m c 0 (.dma q) ∗ atPos ER (cell c q) 1 ∅ 0 ∗ OW c 0 -∗ WP c (p ⟨⟩) Q)
          -∗ WP c (.op (.waitDma2 q vs vd hsrc hdst) p) Q) := by
  have h1 : 0 < roundsOf (.dma q) := by rw [rounds_one hq]; decide
  unfold OW
  iintro ⟨#HR, ⟨Hc, Ha⟩, %W, HO⟩ Hk
  iapply (Rounds.wp_wait_rest_token 𝒱₀ ER (Rd m) (c : Thread nD τ) none (κ := K (c, placeOf (.dma q)))
      (wpE_waitDma2_eq 𝒱₀ (c : Thread nD τ) none Set.univ) (Set.mem_univ _) () (O := 0) (W := W) (R := 0) (m := 0) (T := ∅)
      (by rw [expect_eq m h1, hA, Nat.zero_add])) $$ [Ha Hc HO]
  · isplitr; · iapply (inv_dma m K c (q := q) (by omega)); iexact HR
    isplitl [Hc]; · iexact Hc
    isplitl [HO]; · iexact HO
    isplitr; · rw [MayWait_zero]; iempintro
    iexact Ha
  iintro ⟨HO, Ha, -, Hp⟩
  ihave Hp2 := (Entails.of_eq (rest_eq m (c := c) h1)) $$ Hp
  iapply Hk
  isplitl [Hp2]; · iexact Hp2
  isplitl [Ha]; · iexact Ha
  iexists _; iexact HO

/-! ## The entry handshake -/

/-- The signal to the peer's barrier, handing over both receive buffers. -/
theorem wp_signal_bar (n : Dev nD) (hn : n = peer c) {p : PUnit → Prog (TpuEff nD τ sig (Elt F) Λ₀ .tc) α} :
    iprop(records m K ∗ OW c (O₀ c) ∗ dutyTok ER (barCell (peer c)) 0 ()
        ∗ (bigSep Finset.univ fun k : Fin 8 => anyAt c (rV k)) ∗ anyAt c uM)
      ⊢ iprop((OW c (owed c 9) -∗ WP c (p ⟨⟩) Q) -∗ WP c (.op (.semSignal (Dev.tc n : Thread nD τ) barS 1) p) Q) := by
  subst hn
  unfold OW
  iintro ⟨#HR, ⟨%W, HO⟩, Ht, Hr, Hu⟩ Hk
  iapply (Rounds.wp_signal 𝒱₀ ER (Rd m) (c : Thread nD τ) none (dst := (peer c : Thread nD τ)) (κ := K (peer c, placeOf (.reg barS))) (r := 0) (d := ())
      (mem_duties m (by rw [rounds_bar]; decide)) rfl () (owed c 9) rfl (W := W)) $$ [HO Ht Hr Hu]
  · isplitr; · iapply (inv_bar m K (peer c)); iexact HR
    isplitl [HO]; · iexact HO
    isplitl [Ht]; · iexact Ht
    isplitl [Hr Hu]
    · iapply (Entails.of_eq (show barPay (F := F) (peer c) = (Rd m).payload (barCell (peer c)) 0 () from rfl))
      unfold barPay; rw [peer_peer]
      isplitl [Hr]; · iexact Hr
      iexact Hu
    iapply (reached_bar m K (peer c)); iexact HR
  iintro HO
  iapply Hk
  iexists _; iexact HO

/-- The wait on the own barrier: the peer's receive buffers come with it. -/
theorem wp_wait_bar {p : PUnit → Prog (TpuEff nD τ sig (Elt F) Λ₀ .tc) α} :
    iprop(records m K ∗ cred (tallyAt (barCell c) () 1) ∗ atPos ER (barCell c) 0 ∅ 0 ∗ OW c (owed c 9))
      ⊢ iprop((barPay c ∗ atPos ER (barCell c) 1 ∅ 0 ∗ OW c (owed c 9) -∗ WP c (p ⟨⟩) Q) -∗ WP c (.op (.semWait barS 1) p) Q) := by
  have h1 : 0 < roundsOf (.reg barS) := by rw [rounds_bar]; decide
  unfold OW
  iintro ⟨#HR, Hc, Ha, %W, HO⟩ Hk
  iapply (Rounds.wp_wait_rest_token 𝒱₀ ER (Rd m) (c : Thread nD τ) none (κ := K (c, placeOf (.reg barS)))
      (wpE_semWait_eq 𝒱₀ (c : Thread nD τ) none Set.univ) (Set.mem_univ _) () (O := owed c 9) (W := W) (R := 0) (m := 0) (T := ∅)
      (by rw [expect_eq m h1]; rfl)) $$ [Ha Hc HO]
  · isplitr; · iapply (inv_bar m K c); iexact HR
    isplitl [Hc]; · iexact Hc
    isplitl [HO]; · iexact HO
    isplitr
    · iapply (mayWait_owed c (.reg barS) 9 (by decide)); iapply (records_lev m K); iexact HR
    iexact Ha
  iintro ⟨HO, Ha, -, Hp⟩
  ihave Hp2 := (Entails.of_eq ((rest_eq m (c := c) h1).trans (show payOf m c 0 (.reg barS) = barPay c from rfl))) $$ Hp
  iapply Hk
  isplitl [Hp2]; · iexact Hp2
  isplitl [Ha]; · iexact Ha
  iexists _; iexact HO

/-! ## The result -/

/-- The result's buffer, the column blocks in `P` written. -/
def Out (c : Dev nD) (P : Finset (Fin 16)) : sProp 𝕄 :=
  iprop(∃ f : Buf (Elt F) (((c : Dev nD) : Thread nD τ).loc cc0_stg1_0), ⌜∀ i, blkOf i ∈ P → f i = outAt m c i⌝
    ∗ (((c : Thread nD τ).loc cc0_stg1_0) ↦{fullShare} f))

/-- A load from the result whose value is not used. -/
theorem wp_load_out (P : Finset (Fin 16)) (r : LoadRect S512x16384) {hl : oM.view.LoadsAt r}
    {p : (r.shape.Idx → Elt F .f32) → Prog (TpuEff nD τ sig (Elt F) Λ₀ .tc) α} :
    Out m c P ⊢ iprop((∀ v, Out m c P -∗ WP c (p v) Q) -∗ WP c (.op (.load oM r hl) p) Q) := by
  unfold Out
  iintro ⟨%f, %hf, Hb⟩ Hk
  iapply (wp_load 𝒱₀ (c : Thread nD τ) none Set.univ (m := oM) (r := r) (S := Finset.univ) (f := f) (Finset.subset_univ _)) $$ [Hb]
  · iexact Hb
  iintro Hb
  iapply Hk
  iexists f
  isplitr; · ipureintro; exact hf
  iexact Hb

/-- Writing column block `b` writes that block and keeps the others. -/
theorem out_write (P : Finset (Fin 16)) (b : Fin 16) (inb : ∀ a, (![0, 1024 * b.val] : Fin 2 → ℕ) a + S512x1024.size a ≤ S512x16384.size a)
    (f : (cc0_stg1_0 : Ref sig .tc).ty.Contents (Elt F)) (hf : ∀ i, blkOf i ∈ P → f i = outAt m c i)
    (i : S512x16384.Idx) (hi : blkOf i ∈ insert b P) :
    (oM.access (Rect.unit (s := S512x16384) ![0, 1024 * b.val] S512x1024.size inb)).write (Elt F) f (outBlk m c b) Finset.univ i = outAt m c i := by
  refine (congrFun (View.write_whole_slice_unit (Val := Elt F) cc0_stg1_0 ![0, 1024 * b.val] S512x1024.size inb f (outBlk m c b)) i).trans ?_
  have h0 : (i 0).val < 512 := (i 0).isLt
  have h1 : (i 1).val < 16384 := (i 1).isLt
  unfold updateSlice
  split
  · next hin =>
    have hb1 := hin (1 : Fin 2)
    have hlo : 1024 * b.val ≤ (i 1).val := hb1.1
    have hhi : (i 1).val < 1024 * b.val + 1024 := hb1.2
    have hb : blkOf i = b := Fin.ext (by show (i 1).val / 1024 = b.val; omega)
    unfold outAt; rw [hb]
    refine congrArg (outBlk m c b) (funext fun a => Fin.ext ?_)
    match a with
    | ⟨0, _⟩ => exact Nat.sub_zero _
    | ⟨1, _⟩ => show (i 1).val - 1024 * b.val = (i 1).val % 1024; omega
  · next hin =>
    refine hf i ((Finset.mem_insert.mp hi).resolve_left fun hb => hin fun a => ?_)
    have hb' : (i 1).val / 1024 = b.val := congrArg Fin.val hb
    match a with
    | ⟨0, _⟩ => exact ⟨Nat.zero_le _, by show (i 0).val < 0 + 512; omega⟩
    | ⟨1, _⟩ => exact ⟨by show 1024 * b.val ≤ (i 1).val; omega, by show (i 1).val < 1024 * b.val + 1024; omega⟩

/-- The store of column block `b` of the result. -/
theorem wp_store_out (P : Finset (Fin 16)) (b : Fin 16) (off : Fin 2 → ℕ) (hoff : off = ![0, 1024 * b.val])
    (inb : ∀ a, off a + S512x1024.size a ≤ S512x16384.size a)
    {hx : (oM.access (Rect.unit (s := S512x16384) off S512x1024.size inb)).Stores Finset.univ}
    {hm : (Finset.univ : Finset (Rect.unit (s := S512x16384) off S512x1024.size inb).shape.Idx) = Finset.univ
      ∨ ∀ a, (Rect.unit (s := S512x16384) off S512x1024.size inb).stride a = 1}
    {p : PUnit → Prog (TpuEff nD τ sig (Elt F) Λ₀ .tc) α} :
    Out m c P ⊢ iprop((Out m c (insert b P) -∗ WP c (p ⟨⟩) Q)
      -∗ WP c (.op (.store oM (Rect.unit (s := S512x16384) off S512x1024.size inb) (outBlk m c b) Finset.univ hx hm) p) Q) := by
  subst hoff
  unfold Out
  iintro ⟨%f, %hf, Hb⟩ Hk
  iapply (wp_store 𝒱₀ (c : Thread nD τ) none Set.univ (m := oM) (S := Finset.univ) (f := f) (Finset.subset_univ _)) $$ [Hb]
  · iexact Hb
  iintro Hb
  iapply Hk
  iexists (oM.access (Rect.unit (s := S512x16384) ![0, 1024 * b.val] S512x1024.size inb)).write (Elt F) f (outBlk m c b) Finset.univ
  isplitr
  · ipureintro
    exact fun i hi => out_write m c P b inb f hf i hi
  iexact Hb

/-! ## The staged activations, the row sums -/

theorem zero2 : (![0, 0] : Fin 2 → ℕ) = fun _ => 0 := funext fun a => by fin_cases a <;> rfl

/-- A buffer held whole at known contents. -/
abbrev stg (c : Dev nD) (b : Ref sig .tc) (X : b.ty.Contents (Elt F)) : sProp 𝕄 := (((c : Thread nD τ).loc b) ↦{fullShare} X)

/-- The load of the activations. -/
theorem wp_load_x {hl : xM.view.LoadsAt (Rect.unit (s := S512x1024) ![0, 0] S512x1024.size inb_S512x1024_S512x1024_0_0).toLoadRect}
    {p : Vec F S512x1024 .f32 → Prog (TpuEff nD τ sig (Elt F) Λ₀ .tc) α} (X : (cc0_stg0_0 : Ref sig .tc).ty.Contents (Elt F)) :
    stg c cc0_stg0_0 X ⊢ iprop((stg c cc0_stg0_0 X -∗ WP c (p X) Q)
      -∗ WP c (.op (.load xM (Rect.unit (s := S512x1024) ![0, 0] S512x1024.size inb_S512x1024_S512x1024_0_0).toLoadRect hl) p) Q) := by
  have hv : xM.view.readAt (Elt F) (Rect.unit (s := S512x1024) ![0, 0] S512x1024.size inb_S512x1024_S512x1024_0_0).toLoadRect X = X :=
    Memref.readAt_unit_zero (Elt F) cc0_stg0_0 zero2 _ X
  iintro Hx Hk
  iapply (wp_load 𝒱₀ (c : Thread nD τ) none Set.univ (m := xM) (S := Finset.univ) (f := X) (Finset.subset_univ _)) $$ [Hx]
  · iexact Hx
  rw [hv]; iexact Hk

/-- The load of the row sums' outgoing buffer, whose value is not used, -/
theorem wp_load_t {r : LoadRect S512x128} {hl : tM.view.LoadsAt r} {p : (r.shape.Idx → Elt F .f32) → Prog (TpuEff nD τ sig (Elt F) Λ₀ .tc) α} :
    (anyAt c tM : sProp 𝕄) ⊢ iprop((∀ v, anyAt c tM -∗ WP c (p v) Q) -∗ WP c (.op (.load tM r hl) p) Q) := by
  unfold anyAt
  iintro ⟨%f, Hb⟩ Hk
  iapply (wp_load 𝒱₀ (c : Thread nD τ) none Set.univ (m := tM) (r := r) (S := tM.view.set) (f := f)
    (by rw [View.set_whole]; exact Finset.subset_univ _)) $$ [Hb]
  · iexact Hb
  iintro Hb
  iapply Hk
  iexists f
  iexact Hb

/-- and the store into it. -/
theorem wp_store_t (w : (cc0_scratch3 : Ref sig .tc).ty.Contents (Elt F))
    {hx : (tM.access (Rect.unit (s := S512x128) ![0, 0] S512x128.size inb_S512x128_S512x128_0_0)).Stores Finset.univ}
    {hm : (Finset.univ : Finset (Rect.unit (s := S512x128) ![0, 0] S512x128.size inb_S512x128_S512x128_0_0).shape.Idx) = Finset.univ
      ∨ ∀ a, (Rect.unit (s := S512x128) ![0, 0] S512x128.size inb_S512x128_S512x128_0_0).stride a = 1}
    {p : PUnit → Prog (TpuEff nD τ sig (Elt F) Λ₀ .tc) α} :
    (anyAt c tM : sProp 𝕄) ⊢ iprop((owns (c : Thread nD τ) tM fullShare w -∗ WP c (p ⟨⟩) Q)
      -∗ WP c (.op (.store tM (Rect.unit (s := S512x128) ![0, 0] S512x128.size inb_S512x128_S512x128_0_0) w Finset.univ hx hm) p) Q) := by
  unfold anyAt
  iintro ⟨%f, Hb⟩ Hk
  have hw : (tM.access (Rect.unit (s := S512x128) ![0, 0] S512x128.size inb_S512x128_S512x128_0_0) : View sig .tc _ _ _).write (Elt F) f w Finset.univ = w :=
    Memref.write_access_unit_zero_univ (Elt F) cc0_scratch3 zero2 _ f w
  have hset : tM.view.set = (Finset.univ : Finset tM.view.ty.Idx) := View.set_whole _
  rw [hset]
  iapply (wp_store 𝒱₀ (c : Thread nD τ) none Set.univ (m := tM) (S := Finset.univ) (f := f) (Finset.subset_univ _)) $$ [Hb]
  · iexact Hb
  rw [hw]
  iintro Hb
  iapply Hk
  unfold owns
  iexists w
  isplitr; · ipureintro; rfl
  rw [hset]
  iexact Hb

theorem owns_u (X : (cc0_scratch4 : Ref sig .tc).ty.Contents (Elt F)) :
    (owns (c : Thread nD τ) uM fullShare X : sProp 𝕄) = stg c cc0_scratch4 X := by
  have h := owns_whole (Ix := Unit) (Name := ℕ) (U := UU) (Lvl := ℕ) (Val := Elt F) (c : Thread nD τ) cc0_scratch4 fullShare X
  exact h

/-- The load of the peer's row sums. -/
theorem wp_load_u {hl : uM.view.LoadsAt (Rect.unit (s := S512x128) ![0, 0] S512x1.size inb_S512x128_S512x1_0_0).toLoadRect}
    {p : Vec F S512x1 .f32 → Prog (TpuEff nD τ sig (Elt F) Λ₀ .tc) α} :
    stRPay m c ⊢ iprop((stRPay m c -∗ WP c (p (statCol m c)) Q)
      -∗ WP c (.op (.load uM (Rect.unit (s := S512x128) ![0, 0] S512x1.size inb_S512x128_S512x1_0_0).toLoadRect hl) p) Q) := by
  unfold stRPay
  rw [owns_u]
  iintro Hb Hk
  iapply (wp_load 𝒱₀ (c : Thread nD τ) none Set.univ (m := uM) (S := Finset.univ) (f := stat m (peer c)) (Finset.subset_univ _)) $$ [Hb]
  · iexact Hb
  iexact Hk

end Ops

end Cert.Softmax

end
-- ==== Proof.Moves.lean ====
/-
# The kernel's recurring runs of operations

A chunk of weights is waited for, loaded, and its exponentials stored; a column block of the result is written; a chunk
of the peer's exponentials is waited for and loaded. Each run is stated once, at any chunk.
-/
module

public import proofs.«01_k».proof.Proof.Steps

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

theorem WP_ret {α : Type} (a : α) (Q : α → sProp 𝕄) : Q a ⊢ WP c (.ret a) Q := by
  unfold WP; rw [wp_ret]; iintro H; imodintro; iexact H

/-- A finished run leaves room for an update of the ghost state. -/
theorem WP_ret_fupd {α : Type} (a : α) (Q : α → sProp 𝕄) : (|={Set.univ}=> Q a) ⊢ WP c (.ret a) Q := by
  unfold WP; rw [wp_ret]

/-- A finished run of a value that is also written otherwise. -/
theorem WP_ret_of (c : Dev nD) {α : Type} (a b : α) (h : a = b) (Q : α → sProp (MT nD τ sig Unit (Elt F) ℕ UU ℕ)) :
    Q b ⊢ WP c (.ret a) Q := by
  subst h
  show _ ⊢ wp _ _ _ _ _
  rw [wp_ret]; iintro H; imodintro; iexact H

theorem WP_bind {α β : Type} (p : Prog (TpuEff nD τ sig (Elt F) Λ₀ .tc) α) (k : α → Prog (TpuEff nD τ sig (Elt F) Λ₀ .tc) β) (Q : β → sProp 𝕄) :
    WP c (p >>= k) Q = WP c p (fun a => WP c (k a) Q) := wp_bind _ _ _ _ _ _

/-- After chunk `k` has been sent: the credit of its reading and the share kept. -/
def Sent (k : Fin 8) : sProp 𝕄 :=
  iprop(cred (tallyAt (cell c (bS k)) () NB) ∗ owns (c : Thread nD τ) (sV k) fullShare.right (ex m c k))
/-- The chunk in the outgoing buffer, not yet sent. -/
def Made (k : Fin 8) : sProp 𝕄 := owns (c : Thread nD τ) (sV k) fullShare (ex m c k)
/-- The peer's chunk `k` is to come, -/
def Coming (k : Fin 8) : sProp 𝕄 := iprop(cred (tallyAt (cell c (bR k)) () NB) ∗ atPos ER (cell c (bR k)) 0 ∅ 0)
/-- and has come. -/
def Came (k : Fin 8) : sProp 𝕄 := iprop(bRPay m c k ∗ atPos ER (cell c (bR k)) 1 ∅ 0)
/-- The copy of chunk `k` is finished. -/
def Done (k : Fin 8) : sProp 𝕄 := iprop(anyAt c (sV k) ∗ atPos ER (cell c (bS k)) 1 ∅ 0)

/-- Sending a made chunk. -/
theorem wp_send (k : Fin 8) (j : ℕ) (n : Dev nD) (hn : n = peer c)
    (hO : owed c (j + 1) = owed c j + tallyAt (cell (peer c) (bR k)) () NB)
    {hsc : (rV k).view.ref.isScScratch = false} {hsrc : (sV k).view.WordExact} {hdst : (rV k).view.WordExact}
    {hsem : DmaTarget.Typed .vmem (.dma (bR k)) (DmaTarget.remote (p := (c : Thread nD τ).2) (Dev.tc n : Thread nD τ) (rV k) (.dma (bS k)) hsc)}
    {α : Type} {Q : α → sProp (MT nD τ sig Unit (Elt F) ℕ UU ℕ)} {p : PUnit → Prog (TpuEff nD τ sig (Elt F) Λ₀ .tc) α} :
    iprop(records m K ∗ Made m c k ∗ BTake c k ∗ OW c (owed c (j + 1)))
      ⊢ iprop((Sent m c k ∗ OW c (owed c j) -∗ WP c (p ⟨⟩) Q)
          -∗ WP c (.op (.enqueueDma (sV k) (.remote (Dev.tc n : Thread nD τ) (rV k) (.dma (bS k)) hsc) (.dma (bR k)) hsrc hdst hsem) p) Q) := by
  unfold Made
  iintro H Hk
  iapply (wp_send_big m K c k j n hn hO) $$ H
  iintro ⟨Hc, Hs, HO⟩
  iapply Hk
  unfold Sent
  isplitl [Hc Hs]
  · isplitl [Hc]; · iexact Hc
    iexact Hs
  iexact HO

/-- Weight chunk `k` arrives and its exponentials are stored. -/
theorem wp_chunk (k : Fin 8) (j : ℕ) {hsrc : (wV k).view.WordExact} {hdst : (bV (slotOf k)).view.WordExact}
    {hl : bM.view.LoadsAt (slotR (slotOf k)).toLoadRect} {hl' : sM.view.LoadsAt (cols k).toLoadRect}
    (g : Vec F S1x1024x1024 .f32 → (cols k).shape.Idx → Elt F .bf16) (hg : g (wVec m c k) = ex m c k)
    {hx : (sM.access (cols k)).Stores Finset.univ} {hm : (Finset.univ : Finset (cols k).shape.Idx) = Finset.univ ∨ ∀ a, (cols k).stride a = 1}
    {α : Type} {Q : α → sProp (MT nD τ sig Unit (Elt F) ℕ UU ℕ)}
    {p : Vec F S1x1024x1024 .f32 → Prog (TpuEff nD τ sig (Elt F) Λ₀ .tc) α} :
    iprop(records m K ∗ WBusy c k ∗ anyAt c (sV k) ∗ OW c (owed c j))
      ⊢ iprop((WFull m c k ∗ wPts m c k ∗ Made m c k ∗ OW c (owed c j) -∗ WP c (p (wVec m c k)) Q)
          -∗ WP c (.op (.waitDma2 (wS (slotOf k)) (wV k) (bV (slotOf k)) hsrc hdst) fun _ =>
            .op (.load bM (slotR (slotOf k)).toLoadRect hl) fun v =>
            .op (.load sM (cols k).toLoadRect hl') fun _ =>
            .op (.store sM (cols k) (g v) Finset.univ hx hm) fun _ => p v) Q) := by
  iintro ⟨#HR, Hw, Hs, HO⟩ Hk
  iapply (wp_wait_w m K c k j) $$ [Hw HO]
  · isplitr; · iexact HR
    isplitl [Hw]; · iexact Hw
    iexact HO
  iintro ⟨Hw, Hp, HO⟩
  iapply (wp_load_w m c k) $$ Hw
  iintro Hw
  iapply (wp_load_any c sM (cols k) (fun _ => rfl)) $$ Hs
  iintro %v Hs
  rw [hg]
  iapply (wp_store_rect c sM (cols k) (fun _ => rfl) (ex m c k)) $$ Hs
  iintro Hs
  iapply Hk
  isplitl [Hw]; · iexact Hw
  isplitl [Hp]; · iexact Hp
  isplitl [Hs]; · unfold Made; iexact Hs
  iexact HO

/-- The copy of the next weight chunk into the slot just read. -/
theorem wp_next (k k' : Fin 8) (h : k'.val = k.val + 2) {hsrc : (wV k').view.WordExact} {hdst : (bV (slotOf k')).view.WordExact}
    {hsem : DmaTarget.Typed .hbm (.dma (wS (slotOf k'))) (DmaTarget.here (nD := nD) (p := (c : Thread nD τ).2) (bV (slotOf k')))}
    {α : Type} {Q : α → sProp (MT nD τ sig Unit (Elt F) ℕ UU ℕ)} {p : PUnit → Prog (TpuEff nD τ sig (Elt F) Λ₀ .tc) α} :
    iprop(records m K ∗ WFull m c k ∗ WTake m c k')
      ⊢ iprop((WBusy c k' -∗ WP c (p ⟨⟩) Q)
          -∗ WP c (.op (.enqueueDma (wV k') (.here (bV (slotOf k'))) (.dma (wS (slotOf k'))) hsrc hdst hsem) p) Q) := by
  iintro ⟨#HR, Hw, Ht⟩ Hk
  iapply (wp_start_w m K c k') $$ [Hw Ht]
  · isplitr; · iexact HR
    isplitl [Hw]; · iapply (full_idle m c k k' h); iexact Hw
    iexact Ht
  iexact Hk

/-! ## The result's column blocks -/

/-- Where chunk `k` of the own half goes, and of the peer's half. -/
def ownB (k : Fin 8) : Fin 16 := ⟨8 * (c.val / 2) + k.val, by have : c.val < 4 := c.isLt; omega⟩
def othB (k : Fin 8) : Fin 16 := ⟨k.val + 8 - 8 * (c.val / 2), by have : c.val < 4 := c.isLt; omega⟩

theorem own_off (k : Fin 8) : k0_off1 c (BitVec.ofNat 32 (1024 * k.val)) = ![0, 1024 * (ownB c k).val] := by
  rw [k0_off1_eq c k]; congr 2; show _ = 1024 * (8 * (c.val / 2) + k.val); omega
theorem oth_off (k : Fin 8) : k0_off2 c (BitVec.ofNat 32 (1024 * k.val)) = ![0, 1024 * (othB c k).val] := by
  rw [k0_off2_eq c k]; congr 2; show _ = 1024 * (k.val + 8 - 8 * (c.val / 2)); omega

theorem own_blk (k : Fin 8) : k0_pay31 (inv m c) (ex m c k) = outBlk m c (ownB c k) := by
  have h1 : owner c (ownB c k) = c := by revert c k; decide
  have h2 : Fin.ofNat 8 (ownB c k).val = k := by revert c k; decide
  unfold outBlk; rw [h1, h2]
theorem oth_blk (k : Fin 8) : k0_pay31 (inv m c) (ex m (peer c) k) = outBlk m c (othB c k) := by
  have h1 : owner c (othB c k) = peer c := by revert c k; decide
  have h2 : Fin.ofNat 8 (othB c k).val = k := by revert c k; decide
  unfold outBlk; rw [h1, h2]

/-- A column block of the result is written. -/
theorem wp_put (P : Finset (Fin 16)) (b : Fin 16) (off : Fin 2 → ℕ) (hoff : off = ![0, 1024 * b.val])
    (w : S512x1024.Idx → Elt F .f32) (hw : w = outBlk m c b)
    {inb : ∀ a, off a + S512x1024.size a ≤ S512x16384.size a} {r : LoadRect S512x16384} {hl : oM.view.LoadsAt r}
    {hx : (oM.access (Rect.unit (s := S512x16384) off S512x1024.size inb)).Stores Finset.univ}
    {hm : (Finset.univ : Finset (Rect.unit (s := S512x16384) off S512x1024.size inb).shape.Idx) = Finset.univ
      ∨ ∀ a, (Rect.unit (s := S512x16384) off S512x1024.size inb).stride a = 1}
    {α : Type} {Q : α → sProp (MT nD τ sig Unit (Elt F) ℕ UU ℕ)} {p : PUnit → Prog (TpuEff nD τ sig (Elt F) Λ₀ .tc) α} :
    Out m c P ⊢ iprop((Out m c (insert b P) -∗ WP c (p ⟨⟩) Q)
      -∗ WP c (.op (.load oM r hl) fun _ =>
        .op (.store oM (Rect.unit (s := S512x16384) off S512x1024.size inb) w Finset.univ hx hm) p) Q) := by
  subst hw
  iintro HP Hk
  iapply (wp_load_out m c P r) $$ HP
  iintro %v HP
  iapply (wp_store_out m c P b off hoff inb) $$ HP
  iexact Hk

/-- The peer's chunk `k` is waited for and loaded. -/
theorem wp_take (k : Fin 8) {hsrc : (sV k).view.WordExact} {hdst : (rV k).view.WordExact} {hl : rM.view.LoadsAt (cols k).toLoadRect}
    {α : Type} {Q : α → sProp (MT nD τ sig Unit (Elt F) ℕ UU ℕ)} {p : Vec F S512x1024 .bf16 → Prog (TpuEff nD τ sig (Elt F) Λ₀ .tc) α} :
    iprop(records m K ∗ Coming c k ∗ OW c 0)
      ⊢ iprop((Came m c k ∗ OW c 0 -∗ WP c (p (ex m (peer c) k)) Q)
          -∗ WP c (.op (.waitDma2 (bR k) (sV k) (rV k) hsrc hdst) fun _ => .op (.load rM (cols k).toLoadRect hl) p) Q) := by
  unfold Coming
  iintro ⟨#HR, ⟨Hc, Ha⟩, HO⟩ Hk
  iapply (wp_wait_one m K c (bR k) (by show 4 ≤ 14 + k.val; omega) (sV k) (rV k) ((credit_rV k).trans (amount_bR k).symm)) $$ [Hc Ha HO]
  · isplitr; · iexact HR
    isplitl [Hc Ha]
    · isplitl [Hc]; · rw [credit_rV]; iexact Hc
      iexact Ha
    iexact HO
  iintro ⟨Hp, Ha, HO⟩
  ihave Hp := (Entails.of_eq ((pay_bR m c k).trans (show bRPay m c k = owns (c : Thread nD τ) (rV k) fullShare (ex m (peer c) k) from rfl))) $$ Hp
  iapply (wp_load_cols c rM k fullShare (ex m (peer c) k)) $$ Hp
  iintro Hp
  iapply Hk
  unfold Came bRPay
  isplitl [Hp Ha]
  · isplitl [Hp]; · iexact Hp
    iexact Ha
  iexact HO

/-- The own chunk `k` is loaded, its copy possibly not finished. -/
theorem wp_keep (k : Fin 8) {hl : sM.view.LoadsAt (cols k).toLoadRect}
    {α : Type} {Q : α → sProp (MT nD τ sig Unit (Elt F) ℕ UU ℕ)} {p : Vec F S512x1024 .bf16 → Prog (TpuEff nD τ sig (Elt F) Λ₀ .tc) α} :
    Sent m c k ⊢ iprop((Sent m c k -∗ WP c (p (ex m c k)) Q) -∗ WP c (.op (.load sM (cols k).toLoadRect hl) p) Q) := by
  unfold Sent
  iintro ⟨Hc, Hs⟩ Hk
  iapply (wp_load_cols c sM k fullShare.right (ex m c k)) $$ Hs
  iintro Hs
  iapply Hk
  isplitl [Hc]; · iexact Hc
  iexact Hs

/-- The copy of chunk `k` is waited for. -/
theorem wp_done (k : Fin 8) {hsrc : (rV k).view.WordExact} {hdst : (sV k).view.WordExact}
    {α : Type} {Q : α → sProp (MT nD τ sig Unit (Elt F) ℕ UU ℕ)} {p : PUnit → Prog (TpuEff nD τ sig (Elt F) Λ₀ .tc) α} :
    iprop(records m K ∗ Sent m c k ∗ atPos ER (cell c (bS k)) 0 ∅ 0 ∗ OW c 0)
      ⊢ iprop((Done c k ∗ OW c 0 -∗ WP c (p ⟨⟩) Q) -∗ WP c (.op (.waitDma2 (bS k) (rV k) (sV k) hsrc hdst) p) Q) := by
  unfold Sent
  iintro ⟨#HR, ⟨Hc, Hs⟩, Ha, HO⟩ Hk
  iapply (wp_wait_one m K c (bS k) (by show 4 ≤ 6 + k.val; omega) (rV k) (sV k) ((credit_sV k).trans (amount_bS k).symm)) $$ [Hc Ha HO]
  · isplitr; · iexact HR
    isplitl [Hc Ha]
    · isplitl [Hc]; · rw [credit_sV]; iexact Hc
      iexact Ha
    iexact HO
  iintro ⟨Hp, Ha, HO⟩
  ihave Hp := (Entails.of_eq ((pay_bS m c k).trans (show bSPay m c k = owns (c : Thread nD τ) (sV k) fullShare.left (ex m c k) from rfl))) $$ Hp
  iapply Hk
  unfold Done
  isplitl [Hp Hs Ha]
  · isplitl [Hp Hs]
    · unfold anyAt
      iapply (owns_join c (sV k) (ex m c k))
      isplitl [Hp]; · iexact Hp
      iexact Hs
    iexact Ha
  iexact HO

end Cert.Softmax

end
-- ==== Proof.Parts.lean ====
/-
# The printed body, part by part

Each part of the printed body is run once, at any device: what it needs, and what it leaves.
-/
module

public import proofs.«01_k».proof.Proof.Moves

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- The handshake: each device tells its peer that its receive buffers may be written, and waits to be told so. The first two weight
    chunks are on their way, the activations loaded. -/
theorem wp_part1 (Q : (Σ' (_ : Dev nD) (_ : BitVec 32) (_ : BitVec 32) (_ : BitVec 32) (_ : FVec F S512x1 .f32), FVec F S512x1024 .bf16) → sProp 𝕄) :
    iprop(records m K ∗ OW c (O₀ c) ∗ dutyTok ER (barCell (peer c)) 0 () ∗ ((bigSep Finset.univ fun k : Fin 8 => anyAt c (rV k)) ∗ anyAt c uM)
        ∗ (cred (tallyAt (barCell c) () 1) ∗ atPos ER (barCell c) 0 ∅ 0)
        ∗ (WIdle c 0 ∗ WTake m c 0) ∗ (WIdle c 1 ∗ WTake m c 1) ∗ stg c cc0_stg0_0 (xstg m c)
        ∗ (∀ v2 v5 v6, barPay c ∗ atPos ER (barCell c) 1 ∅ 0 ∗ OW c (owed c 9) ∗ WBusy c 0 ∗ WBusy c 1 ∗ stg c cc0_stg0_0 (xstg m c)
          -∗ Q ⟨c, v2, v5, v6, rowSum m c 0, xb m c⟩))
      ⊢ WP c (k0_part1 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9) Q := by
  rw [k0_part1_eq_skeleton]; unfold k0_part1_skel
  simp only [semSignalWord, semWaitWord, Prog.lift, Prog.bind_op, Prog.bind_ret, Prog.pure_eq_ret, wp_deviceId]
  iintro ⟨#HR, HO, Ht, ⟨Hr, Hu⟩, ⟨Hc, Ha⟩, ⟨Hw0, Hv0⟩, ⟨Hw1, Hv1⟩, Hx, Hk⟩
  iapply (wp_signal_bar m K c _ (peer_of_val (k0_dev1_eq c))) $$ [HO Ht Hr Hu]
  · isplitr; · iexact HR
    isplitl [HO]; · iexact HO
    isplitl [Ht]; · iexact Ht
    isplitl [Hr]; · iexact Hr
    iexact Hu
  iintro HO
  iapply (wp_wait_bar m K c) $$ [Hc Ha HO]
  · isplitr; · iexact HR
    isplitl [Hc]; · iexact Hc
    isplitl [Ha]; · iexact Ha
    iexact HO
  iintro ⟨Hp, Ha, HO⟩
  iapply (wp_start_w m K c 0) $$ [Hw0 Hv0]
  · isplitr; · iexact HR
    isplitl [Hw0]; · iexact Hw0
    iexact Hv0
  iintro Hw0
  iapply (wp_load_x c (xstg m c)) $$ Hx
  iintro Hx
  iapply (wp_start_w m K c 1) $$ [Hw1 Hv1]
  · isplitr; · iexact HR
    isplitl [Hw1]; · iexact Hw1
    iexact Hv1
  iintro Hw1
  iapply (WP_ret_of c _ (⟨c, Scalar.remsi (Scalar.divsi c.word 2#32) 2#32, Scalar.remsi (Scalar.divsi c.word 1#32) 2#32,
    Scalar.subi 1#32 (Scalar.remsi (Scalar.divsi c.word 2#32) 2#32), rowSum m c 0, xb m c⟩ :
    Σ' (_ : Dev nD) (_ : BitVec 32) (_ : BitVec 32) (_ : BitVec 32) (_ : FVec F S512x1 .f32), FVec F S512x1024 .bf16) rfl)
  iapply Hk
  isplitl [Hp]; · iexact Hp
  isplitl [Ha]; · iexact Ha
  isplitl [HO]; · iexact HO
  isplitl [Hw0]; · iexact Hw0
  isplitl [Hw1]; · iexact Hw1
  iexact Hx

/-- Chunk 0 is computed and sent. -/
theorem wp_part2 (v5 v6 : BitVec 32) (Q : FVec F S512x1 .f32 → sProp 𝕄) :
    iprop(records m K ∗ WBusy c 0 ∗ anyAt c (sV 0) ∗ BTake c 0 ∗ OW c (owed c 9)
        ∗ (WFull m c 0 ∗ wPts m c 0 ∗ Sent m c 0 ∗ OW c (owed c 8) -∗ Q (rowSum m c 1)))
      ⊢ WP c (k0_part2 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v5 v6 (rowSum m c 0) (xb m c)) Q := by
  rw [k0_part2_eq_skeleton]; unfold k0_part2_skel
  simp only [semSignalWord, semWaitWord, Prog.lift, Prog.bind_op, Prog.bind_ret, Prog.pure_eq_ret]
  iintro ⟨#HR, Hb, Hs, Ht, HO, Hk⟩
  iapply (wp_chunk m K c 0 9 _ rfl) $$ [Hb Hs HO]
  · isplitr; · iexact HR
    isplitl [Hb]; · iexact Hb
    isplitl [Hs]; · iexact Hs
    iexact HO
  iintro ⟨Hf, Hp, Hm, HO⟩
  iapply (wp_send m K c 0 8 _ (peer_of_val (k0_dev2_eq c)) rfl) $$ [Hm Ht HO]
  · isplitr; · iexact HR
    isplitl [Hm]; · iexact Hm
    isplitl [Ht]; · iexact Ht
    iexact HO
  iintro ⟨Hs, HO⟩
  iapply (WP_ret_of c _ (rowSum m c 1) rfl)
  iapply Hk
  isplitl [Hf]; · iexact Hf
  isplitl [Hp]; · iexact Hp
  isplitl [Hs]; · iexact Hs
  iexact HO

/-- Chunk 2 of the weights starts; chunk 1 is computed and sent. -/
theorem wp_part3 (v5 v6 : BitVec 32) (Q : FVec F S512x1 .f32 → sProp 𝕄) :
    iprop(records m K ∗ WFull m c 0 ∗ WTake m c 2 ∗ WBusy c 1 ∗ anyAt c (sV 1) ∗ BTake c 1 ∗ OW c (owed c 8)
        ∗ (WBusy c 2 ∗ WFull m c 1 ∗ wPts m c 1 ∗ Sent m c 1 ∗ OW c (owed c 7) -∗ Q (rowSum m c 2)))
      ⊢ WP c (k0_part3 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v5 v6 (xb m c) (rowSum m c 1)) Q := by
  rw [k0_part3_eq_skeleton]; unfold k0_part3_skel
  simp only [semSignalWord, semWaitWord, Prog.lift, Prog.bind_op, Prog.bind_ret, Prog.pure_eq_ret]
  iintro ⟨#HR, Hf, Hv, Hb, Hs, Ht, HO, Hk⟩
  iapply (wp_next m K c 0 2 rfl) $$ [Hf Hv]
  · isplitr; · iexact HR
    isplitl [Hf]; · iexact Hf
    iexact Hv
  iintro Hn
  iapply (wp_chunk m K c 1 8 _ rfl) $$ [Hb Hs HO]
  · isplitr; · iexact HR
    isplitl [Hb]; · iexact Hb
    isplitl [Hs]; · iexact Hs
    iexact HO
  iintro ⟨Hf, Hp, Hm, HO⟩
  iapply (wp_send m K c 1 7 _ (peer_of_val (k0_dev3_eq c)) rfl) $$ [Hm Ht HO]
  · isplitr; · iexact HR
    isplitl [Hm]; · iexact Hm
    isplitl [Ht]; · iexact Ht
    iexact HO
  iintro ⟨Hs, HO⟩
  iapply (WP_ret_of c _ (rowSum m c 2) rfl)
  iapply Hk
  isplitl [Hn]; · iexact Hn
  isplitl [Hf]; · iexact Hf
  isplitl [Hp]; · iexact Hp
  isplitl [Hs]; · iexact Hs
  iexact HO

/-- Chunk 3 of the weights starts; chunk 2 is computed and sent. -/
theorem wp_part4 (v5 v6 : BitVec 32) (Q : FVec F S512x1 .f32 → sProp 𝕄) :
    iprop(records m K ∗ WFull m c 1 ∗ WTake m c 3 ∗ WBusy c 2 ∗ anyAt c (sV 2) ∗ BTake c 2 ∗ OW c (owed c 7)
        ∗ (WBusy c 3 ∗ WFull m c 2 ∗ wPts m c 2 ∗ Sent m c 2 ∗ OW c (owed c 6) -∗ Q (rowSum m c 3)))
      ⊢ WP c (k0_part4 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v5 v6 (xb m c) (rowSum m c 2)) Q := by
  rw [k0_part4_eq_skeleton]; unfold k0_part4_skel
  simp only [semSignalWord, semWaitWord, Prog.lift, Prog.bind_op, Prog.bind_ret, Prog.pure_eq_ret]
  iintro ⟨#HR, Hf, Hv, Hb, Hs, Ht, HO, Hk⟩
  iapply (wp_next m K c 1 3 rfl) $$ [Hf Hv]
  · isplitr; · iexact HR
    isplitl [Hf]; · iexact Hf
    iexact Hv
  iintro Hn
  iapply (wp_chunk m K c 2 7 _ rfl) $$ [Hb Hs HO]
  · isplitr; · iexact HR
    isplitl [Hb]; · iexact Hb
    isplitl [Hs]; · iexact Hs
    iexact HO
  iintro ⟨Hf, Hp, Hm, HO⟩
  iapply (wp_send m K c 2 6 _ (peer_of_val (k0_dev4_eq c)) rfl) $$ [Hm Ht HO]
  · isplitr; · iexact HR
    isplitl [Hm]; · iexact Hm
    isplitl [Ht]; · iexact Ht
    iexact HO
  iintro ⟨Hs, HO⟩
  iapply (WP_ret_of c _ (rowSum m c 3) rfl)
  iapply Hk
  isplitl [Hn]; · iexact Hn
  isplitl [Hf]; · iexact Hf
  isplitl [Hp]; · iexact Hp
  isplitl [Hs]; · iexact Hs
  iexact HO

/-- Chunk 4 of the weights starts; chunk 3 is computed. -/
theorem wp_part5 (v5 v6 : BitVec 32) (Q : FVec F S512x1 .f32 → sProp 𝕄) :
    iprop(records m K ∗ WFull m c 2 ∗ WTake m c 4 ∗ WBusy c 3 ∗ anyAt c (sV 3) ∗ OW c (owed c 6)
        ∗ (WBusy c 4 ∗ WFull m c 3 ∗ wPts m c 3 ∗ Made m c 3 ∗ OW c (owed c 6) -∗ Q (rowSum m c 4)))
      ⊢ WP c (k0_part5 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 v5 v6 (xb m c) (rowSum m c 3)) Q := by
  rw [k0_part5_eq_skeleton]; unfold k0_part5_skel
  simp only [semSignalWord, semWaitWord, Prog.lift, Prog.bind_op, Prog.bind_ret, Prog.pure_eq_ret]
  iintro ⟨#HR, Hf, Hv, Hb, Hs, HO, Hk⟩
  iapply (wp_next m K c 2 4 rfl) $$ [Hf Hv]
  · isplitr; · iexact HR
    isplitl [Hf]; · iexact Hf
    iexact Hv
  iintro Hn
  iapply (wp_chunk m K c 3 6 _ rfl) $$ [Hb Hs HO]
  · isplitr; · iexact HR
    isplitl [Hb]; · iexact Hb
    isplitl [Hs]; · iexact Hs
    iexact HO
  iintro ⟨Hf, Hp, Hm, HO⟩
  iapply (WP_ret_of c _ (rowSum m c 4) rfl)
  iapply Hk
  isplitl [Hn]; · iexact Hn
  isplitl [Hf]; · iexact Hf
  isplitl [Hp]; · iexact Hp
  isplitl [Hm]; · iexact Hm
  iexact HO

/-- Chunk 3 is sent; chunk 5 of the weights starts; chunk 4 is computed. -/
theorem wp_part6 (v5 v6 : BitVec 32) (Q : FVec F S512x1 .f32 → sProp 𝕄) :
    iprop(records m K ∗ (Made m c 3 ∗ BTake c 3) ∗ WFull m c 3 ∗ WTake m c 5 ∗ WBusy c 4 ∗ anyAt c (sV 4) ∗ OW c (owed c 6)
        ∗ (Sent m c 3 ∗ WBusy c 5 ∗ WFull m c 4 ∗ wPts m c 4 ∗ Made m c 4 ∗ OW c (owed c 5) -∗ Q (rowSum m c 5)))
      ⊢ WP c (k0_part6 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v5 v6 (xb m c) (rowSum m c 4)) Q := by
  rw [k0_part6_eq_skeleton]; unfold k0_part6_skel
  simp only [semSignalWord, semWaitWord, Prog.lift, Prog.bind_op, Prog.bind_ret, Prog.pure_eq_ret]
  iintro ⟨#HR, ⟨Hm, Ht⟩, Hf, Hv, Hb, Hs, HO, Hk⟩
  iapply (wp_send m K c 3 5 _ (peer_of_val (k0_dev5_eq c)) rfl) $$ [Hm Ht HO]
  · isplitr; · iexact HR
    isplitl [Hm]; · iexact Hm
    isplitl [Ht]; · iexact Ht
    iexact HO
  iintro ⟨Hz, HO⟩
  iapply (wp_next m K c 3 5 rfl) $$ [Hf Hv]
  · isplitr; · iexact HR
    isplitl [Hf]; · iexact Hf
    iexact Hv
  iintro Hn
  iapply (wp_chunk m K c 4 5 _ rfl) $$ [Hb Hs HO]
  · isplitr; · iexact HR
    isplitl [Hb]; · iexact Hb
    isplitl [Hs]; · iexact Hs
    iexact HO
  iintro ⟨Hf, Hp, Hm, HO⟩
  iapply (WP_ret_of c _ (rowSum m c 5) rfl)
  iapply Hk
  isplitl [Hz]; · iexact Hz
  isplitl [Hn]; · iexact Hn
  isplitl [Hf]; · iexact Hf
  isplitl [Hp]; · iexact Hp
  isplitl [Hm]; · iexact Hm
  iexact HO

/-- Chunk 4 is sent; chunk 6 of the weights starts; chunk 5 is computed. -/
theorem wp_part7 (v5 v6 : BitVec 32) (Q : FVec F S512x1 .f32 → sProp 𝕄) :
    iprop(records m K ∗ (Made m c 4 ∗ BTake c 4) ∗ WFull m c 4 ∗ WTake m c 6 ∗ WBusy c 5 ∗ anyAt c (sV 5) ∗ OW c (owed c 5)
        ∗ (Sent m c 4 ∗ WBusy c 6 ∗ WFull m c 5 ∗ wPts m c 5 ∗ Made m c 5 ∗ OW c (owed c 4) -∗ Q (rowSum m c 6)))
      ⊢ WP c (k0_part7 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v5 v6 (xb m c) (rowSum m c 5)) Q := by
  rw [k0_part7_eq_skeleton]; unfold k0_part7_skel
  simp only [semSignalWord, semWaitWord, Prog.lift, Prog.bind_op, Prog.bind_ret, Prog.pure_eq_ret]
  iintro ⟨#HR, ⟨Hm, Ht⟩, Hf, Hv, Hb, Hs, HO, Hk⟩
  iapply (wp_send m K c 4 4 _ (peer_of_val (k0_dev6_eq c)) rfl) $$ [Hm Ht HO]
  · isplitr; · iexact HR
    isplitl [Hm]; · iexact Hm
    isplitl [Ht]; · iexact Ht
    iexact HO
  iintro ⟨Hz, HO⟩
  iapply (wp_next m K c 4 6 rfl) $$ [Hf Hv]
  · isplitr; · iexact HR
    isplitl [Hf]; · iexact Hf
    iexact Hv
  iintro Hn
  iapply (wp_chunk m K c 5 4 _ rfl) $$ [Hb Hs HO]
  · isplitr; · iexact HR
    isplitl [Hb]; · iexact Hb
    isplitl [Hs]; · iexact Hs
    iexact HO
  iintro ⟨Hf, Hp, Hm, HO⟩
  iapply (WP_ret_of c _ (rowSum m c 6) rfl)
  iapply Hk
  isplitl [Hz]; · iexact Hz
  isplitl [Hn]; · iexact Hn
  isplitl [Hf]; · iexact Hf
  isplitl [Hp]; · iexact Hp
  isplitl [Hm]; · iexact Hm
  iexact HO

/-- Chunk 5 is sent; chunk 7 of the weights starts; chunk 6 is computed. -/
theorem wp_part8 (Q : FVec F S512x1 .f32 → sProp 𝕄) :
    iprop(records m K ∗ (Made m c 5 ∗ BTake c 5) ∗ WFull m c 5 ∗ WTake m c 7 ∗ WBusy c 6 ∗ anyAt c (sV 6) ∗ OW c (owed c 4)
        ∗ (Sent m c 5 ∗ WBusy c 7 ∗ WFull m c 6 ∗ wPts m c 6 ∗ Made m c 6 ∗ OW c (owed c 3) -∗ Q (rowSum m c 7)))
      ⊢ WP c (k0_part8 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c (xb m c) (rowSum m c 6)) Q := by
  rw [k0_part8_eq_skeleton]; unfold k0_part8_skel
  simp only [semSignalWord, semWaitWord, Prog.lift, Prog.bind_op, Prog.bind_ret, Prog.pure_eq_ret]
  iintro ⟨#HR, ⟨Hm, Ht⟩, Hf, Hv, Hb, Hs, HO, Hk⟩
  iapply (wp_send m K c 5 3 _ (peer_of_val (k0_dev7_eq c)) rfl) $$ [Hm Ht HO]
  · isplitr; · iexact HR
    isplitl [Hm]; · iexact Hm
    isplitl [Ht]; · iexact Ht
    iexact HO
  iintro ⟨Hz, HO⟩
  iapply (wp_next m K c 5 7 rfl) $$ [Hf Hv]
  · isplitr; · iexact HR
    isplitl [Hf]; · iexact Hf
    iexact Hv
  iintro Hn
  iapply (wp_chunk m K c 6 3 _ rfl) $$ [Hb Hs HO]
  · isplitr; · iexact HR
    isplitl [Hb]; · iexact Hb
    isplitl [Hs]; · iexact Hs
    iexact HO
  iintro ⟨Hf, Hp, Hm, HO⟩
  iapply (WP_ret_of c _ (rowSum m c 7) rfl)
  iapply Hk
  isplitl [Hz]; · iexact Hz
  isplitl [Hn]; · iexact Hn
  isplitl [Hf]; · iexact Hf
  isplitl [Hp]; · iexact Hp
  isplitl [Hm]; · iexact Hm
  iexact HO

/-- Chunk 7 is computed; the row sums are complete and sent. -/
theorem wp_part9 (v5 v6 : BitVec 32) (Q : FVec F S512x1 .f32 → sProp 𝕄) :
    iprop(records m K ∗ WBusy c 7 ∗ anyAt c (sV 7) ∗ anyAt c tM
        ∗ (dutyTok ER (cell c stS) 0 () ∗ dutyTok ER (cell (peer c) stR) 0 () ∗ anyAt (peer c) uM) ∗ OW c (owed c 3)
        ∗ (WFull m c 7 ∗ wPts m c 7 ∗ Made m c 7 ∗ cred (tallyAt (cell c stS) () NS) ∗ OW c (owed c 2) -∗ Q (rowSum m c 8)))
      ⊢ WP c (k0_part9 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v5 v6 (xb m c) (rowSum m c 7)) Q := by
  rw [k0_part9_eq_skeleton]; unfold k0_part9_skel
  simp only [semSignalWord, semWaitWord, Prog.lift, Prog.bind_op, Prog.bind_ret, Prog.pure_eq_ret]
  iintro ⟨#HR, Hb, Hs, Hy, Ht, HO, Hk⟩
  iapply (wp_chunk m K c 7 3 _ rfl) $$ [Hb Hs HO]
  · isplitr; · iexact HR
    isplitl [Hb]; · iexact Hb
    isplitl [Hs]; · iexact Hs
    iexact HO
  iintro ⟨Hf, Hp, Hm, HO⟩
  iapply (wp_load_t c) $$ Hy
  iintro %v Hy
  iapply (wp_store_t c (stat m c)) $$ Hy
  iintro Hy
  iapply (wp_send_stat m K c _ (peer_of_val (k0_dev8_eq c))) $$ [Hy Ht HO]
  · isplitr; · iexact HR
    isplitl [Hy]; · iexact Hy
    isplitl [Ht]; · iexact Ht
    iexact HO
  iintro ⟨Hc, HO⟩
  iapply (WP_ret_of c _ (rowSum m c 8) rfl)
  iapply Hk
  isplitl [Hf]; · iexact Hf
  isplitl [Hp]; · iexact Hp
  isplitl [Hm]; · iexact Hm
  isplitl [Hc]; · iexact Hc
  iexact HO

/-- The last two chunks are sent; the two devices' row sums are exchanged; block 0 of the own half is written. -/
theorem wp_part10 (v2 v5 v6 : BitVec 32) (Q : (Σ' (_ : FVec F S512x1 .f32) (_ : FVec F S512x1024 .f32), BitVec 32) → sProp 𝕄) (P : Finset (Fin 16)) :
    iprop(records m K ∗ (Made m c 6 ∗ BTake c 6) ∗ (Made m c 7 ∗ BTake c 7) ∗ (cred (tallyAt (cell c stS) () NS) ∗ atPos ER (cell c stS) 0 ∅ 0)
        ∗ (cred (tallyAt (cell c stR) () NS) ∗ atPos ER (cell c stR) 0 ∅ 0) ∗ Sent m c 0 ∗ Sent m c 1 ∗ Out m c P ∗ OW c (owed c 2)
        ∗ (∀ v301, Sent m c 6 ∗ Sent m c 7 ∗ (stSPay m c ∗ atPos ER (cell c stS) 1 ∅ 0) ∗ (stRPay m c ∗ atPos ER (cell c stR) 1 ∅ 0)
            ∗ Sent m c 0 ∗ Sent m c 1 ∗ Out m c (insert (ownB c 0) P) ∗ OW c 0 -∗ Q ⟨inv m c, outBlk m c (ownB c 1), v301⟩))
      ⊢ WP c (k0_part10 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 v5 v6 (rowSum m c 8)) Q := by
  rw [k0_part10_eq_skeleton]; unfold k0_part10_skel
  simp only [semSignalWord, semWaitWord, Prog.lift, Prog.bind_op, Prog.bind_ret, Prog.pure_eq_ret]
  iintro ⟨#HR, ⟨Hm, Ht⟩, ⟨Hm', Ht'⟩, Hs, Hr, H0, H1, HP, HO, Hk⟩
  iapply (wp_send m K c 6 1 _ (peer_of_val (k0_dev9_eq c)) rfl) $$ [Hm Ht HO]
  · isplitr; · iexact HR
    isplitl [Hm]; · iexact Hm
    isplitl [Ht]; · iexact Ht
    iexact HO
  iintro ⟨H6, HO⟩
  iapply (wp_send m K c 7 0 _ (peer_of_val (k0_dev10_eq c)) rfl) $$ [Hm' Ht' HO]
  · isplitr; · iexact HR
    isplitl [Hm']; · iexact Hm'
    isplitl [Ht']; · iexact Ht'
    iexact HO
  iintro ⟨H7, HO⟩
  iapply (wp_wait_one m K c stS (by decide) uM tM (credit_tM.trans rfl)) $$ [Hs HO]
  · isplitr; · iexact HR
    isplitl [Hs]; · iexact Hs
    iexact HO
  iintro ⟨Hq, Hqa, HO⟩
  ihave Hq := (Entails.of_eq (show payOf m c 0 (SemLoc.dma stS) = stSPay m c from rfl)) $$ Hq
  iapply (wp_wait_one m K c stR (by decide) tM uM (credit_uM.trans rfl)) $$ [Hr HO]
  · isplitr; · iexact HR
    isplitl [Hr]; · iexact Hr
    iexact HO
  iintro ⟨Hr, Hra, HO⟩
  ihave Hr := (Entails.of_eq (show payOf m c 0 (SemLoc.dma stR) = stRPay m c from rfl)) $$ Hr
  iapply (wp_load_u m c) $$ Hr
  iintro Hr
  iapply (wp_keep m c 0) $$ H0
  iintro H0
  iapply (wp_put m c P (ownB c 0) _ (own_off c 0) _ (own_blk m c 0)) $$ HP
  iintro HP
  iapply (wp_keep m c 1) $$ H1
  iintro H1
  iapply (WP_ret_of c _ ⟨inv m c, outBlk m c (ownB c 1), Scalar.muli v2 8192#32⟩
    (congrArg (fun z => (⟨inv m c, z, Scalar.muli v2 8192#32⟩ : Σ' (_ : FVec F S512x1 .f32) (_ : FVec F S512x1024 .f32), BitVec 32)) (own_blk m c 1)))
  iapply Hk
  isplitl [H6]; · iexact H6
  isplitl [H7]; · iexact H7
  isplitl [Hq Hqa]
  · isplitl [Hq]; · iexact Hq
    iexact Hqa
  isplitl [Hr Hra]
  · isplitl [Hr]; · iexact Hr
    iexact Hra
  isplitl [H0]; · iexact H0
  isplitl [H1]; · iexact H1
  isplitl [HP]; · iexact HP
  iexact HO

/-- Blocks 1 to 4 of the own half are written. -/
theorem wp_part11 (v2 v301 : BitVec 32) (P : Finset (Fin 16)) (Q : FVec F S512x1024 .f32 → sProp 𝕄) :
    iprop(Sent m c 2 ∗ Sent m c 3 ∗ Sent m c 4 ∗ Sent m c 5 ∗ Out m c P
        ∗ (Sent m c 2 ∗ Sent m c 3 ∗ Sent m c 4 ∗ Sent m c 5 ∗ Out m c (insert (ownB c 4) (insert (ownB c 3) (insert (ownB c 2) (insert (ownB c 1) P)))) -∗ Q (outBlk m c (ownB c 5))))
      ⊢ WP c (k0_part11 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 (inv m c) (outBlk m c (ownB c 1)) v301) Q := by
  rw [k0_part11_eq_skeleton]; unfold k0_part11_skel
  simp only [semSignalWord, semWaitWord, Prog.lift, Prog.bind_op, Prog.bind_ret, Prog.pure_eq_ret]
  iintro ⟨H2, H3, H4, H5, HP, Hk⟩
  iapply (wp_put m c _ (ownB c 1) _ (own_off c 1) _ rfl) $$ HP
  iintro HP
  iapply (wp_keep m c 2) $$ H2
  iintro H2
  iapply (wp_put m c _ (ownB c 2) _ (own_off c 2) _ (own_blk m c 2)) $$ HP
  iintro HP
  iapply (wp_keep m c 3) $$ H3
  iintro H3
  iapply (wp_put m c _ (ownB c 3) _ (own_off c 3) _ (own_blk m c 3)) $$ HP
  iintro HP
  iapply (wp_keep m c 4) $$ H4
  iintro H4
  iapply (wp_put m c _ (ownB c 4) _ (own_off c 4) _ (own_blk m c 4)) $$ HP
  iintro HP
  iapply (wp_keep m c 5) $$ H5
  iintro H5
  iapply (WP_ret_of c _ (outBlk m c (ownB c 5)) (own_blk m c 5))
  iapply Hk
  isplitl [H2]; · iexact H2
  isplitl [H3]; · iexact H3
  isplitl [H4]; · iexact H4
  isplitl [H5]; · iexact H5
  iexact HP

/-- Blocks 5 to 7 of the own half are written; the peer's chunk 0 arrives. -/
theorem wp_part12 (v2 v5 v6 : BitVec 32) (P : Finset (Fin 16)) (Q : (Σ' (_ : FVec F S512x1024 .f32), BitVec 32) → sProp 𝕄) :
    iprop(records m K ∗ Sent m c 6 ∗ Sent m c 7 ∗ Coming c 0 ∗ Out m c P ∗ OW c 0
        ∗ (∀ v367, Sent m c 6 ∗ Sent m c 7 ∗ Came m c 0 ∗ Out m c (insert (ownB c 7) (insert (ownB c 6) (insert (ownB c 5) P))) ∗ OW c 0 -∗ Q ⟨outBlk m c (othB c 0), v367⟩))
      ⊢ WP c (k0_part12 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 v5 v6 (inv m c) (outBlk m c (ownB c 5))) Q := by
  rw [k0_part12_eq_skeleton]; unfold k0_part12_skel
  simp only [semSignalWord, semWaitWord, Prog.lift, Prog.bind_op, Prog.bind_ret, Prog.pure_eq_ret]
  iintro ⟨#HR, H6, H7, H0, HP, HO, Hk⟩
  iapply (wp_put m c _ (ownB c 5) _ (own_off c 5) _ rfl) $$ HP
  iintro HP
  iapply (wp_keep m c 6) $$ H6
  iintro H6
  iapply (wp_put m c _ (ownB c 6) _ (own_off c 6) _ (own_blk m c 6)) $$ HP
  iintro HP
  iapply (wp_keep m c 7) $$ H7
  iintro H7
  iapply (wp_put m c _ (ownB c 7) _ (own_off c 7) _ (own_blk m c 7)) $$ HP
  iintro HP
  iapply (wp_take m K c 0) $$ [H0 HO]
  · isplitr; · iexact HR
    isplitl [H0]; · iexact H0
    iexact HO
  iintro ⟨H0, HO⟩
  iapply (WP_ret_of c _ ⟨outBlk m c (othB c 0), _⟩ (congrArg (fun z => (⟨z, _⟩ : Σ' (_ : FVec F S512x1024 .f32), BitVec 32)) (oth_blk m c 0)))
  iapply Hk
  isplitl [H6]; · iexact H6
  isplitl [H7]; · iexact H7
  isplitl [H0]; · iexact H0
  isplitl [HP]; · iexact HP
  iexact HO

/-- Blocks 0 and 1 of the peer's half are written; its chunk 2 arrives. -/
theorem wp_part13 (v2 v5 v6 v367 : BitVec 32) (P : Finset (Fin 16)) (Q : FVec F S512x1024 .f32 → sProp 𝕄) :
    iprop(records m K ∗ Coming c 1 ∗ Coming c 2 ∗ Out m c P ∗ OW c 0
        ∗ (Came m c 1 ∗ Came m c 2 ∗ Out m c (insert (othB c 1) (insert (othB c 0) P)) ∗ OW c 0 -∗ Q (k0_pay39 (ex m (peer c) 2))))
      ⊢ WP c (k0_part13 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 v5 v6 (inv m c) (outBlk m c (othB c 0)) v367) Q := by
  rw [k0_part13_eq_skeleton]; unfold k0_part13_skel
  simp only [semSignalWord, semWaitWord, Prog.lift, Prog.bind_op, Prog.bind_ret, Prog.pure_eq_ret]
  iintro ⟨#HR, H1, H2, HP, HO, Hk⟩
  iapply (wp_put m c _ (othB c 0) _ (oth_off c 0) _ rfl) $$ HP
  iintro HP
  iapply (wp_take m K c 1) $$ [H1 HO]
  · isplitr; · iexact HR
    isplitl [H1]; · iexact H1
    iexact HO
  iintro ⟨H1, HO⟩
  iapply (wp_put m c _ (othB c 1) _ (oth_off c 1) _ (oth_blk m c 1)) $$ HP
  iintro HP
  iapply (wp_take m K c 2) $$ [H2 HO]
  · isplitr; · iexact HR
    isplitl [H2]; · iexact H2
    iexact HO
  iintro ⟨H2, HO⟩
  iapply (WP_ret c)
  iapply Hk
  isplitl [H1]; · iexact H1
  isplitl [H2]; · iexact H2
  isplitl [HP]; · iexact HP
  iexact HO

/-- Blocks 2 and 3 of the peer's half are written. -/
theorem wp_part14 (v2 v5 v6 : BitVec 32) (P : Finset (Fin 16)) (Q : PUnit → sProp 𝕄) :
    iprop(records m K ∗ Coming c 3 ∗ Out m c P ∗ OW c 0
        ∗ (Came m c 3 ∗ Out m c (insert (othB c 3) (insert (othB c 2) P)) ∗ OW c 0 -∗ Q ⟨⟩))
      ⊢ WP c (k0_part14 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 v5 v6 (inv m c) (k0_pay39 (ex m (peer c) 2))) Q := by
  rw [k0_part14_eq_skeleton]; unfold k0_part14_skel
  simp only [semSignalWord, semWaitWord, Prog.lift, Prog.bind_op, Prog.bind_ret, Prog.pure_eq_ret]
  iintro ⟨#HR, H3, HP, HO, Hk⟩
  iapply (wp_put m c _ (othB c 2) _ (oth_off c 2) _ (oth_blk m c 2)) $$ HP
  iintro HP
  iapply (wp_take m K c 3) $$ [H3 HO]
  · isplitr; · iexact HR
    isplitl [H3]; · iexact H3
    iexact HO
  iintro ⟨H3, HO⟩
  iapply (wp_put m c _ (othB c 3) _ (oth_off c 3) _ (oth_blk m c 3)) $$ HP
  iintro HP
  iapply (WP_ret c)
  iapply Hk
  isplitl [H3]; · iexact H3
  isplitl [HP]; · iexact HP
  iexact HO

/-- Blocks 4 and 5 of the peer's half are written. -/
theorem wp_part15 (v2 v5 v6 : BitVec 32) (P : Finset (Fin 16)) (Q : BitVec 32 → sProp 𝕄) :
    iprop(records m K ∗ Coming c 4 ∗ Coming c 5 ∗ Out m c P ∗ OW c 0
        ∗ (∀ v456, Came m c 4 ∗ Came m c 5 ∗ Out m c (insert (othB c 5) (insert (othB c 4) P)) ∗ OW c 0 -∗ Q v456))
      ⊢ WP c (k0_part15 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 v5 v6 (inv m c)) Q := by
  rw [k0_part15_eq_skeleton]; unfold k0_part15_skel
  simp only [semSignalWord, semWaitWord, Prog.lift, Prog.bind_op, Prog.bind_ret, Prog.pure_eq_ret]
  iintro ⟨#HR, H4, H5, HP, HO, Hk⟩
  iapply (wp_take m K c 4) $$ [H4 HO]
  · isplitr; · iexact HR
    isplitl [H4]; · iexact H4
    iexact HO
  iintro ⟨H4, HO⟩
  iapply (wp_put m c _ (othB c 4) _ (oth_off c 4) _ (oth_blk m c 4)) $$ HP
  iintro HP
  iapply (wp_take m K c 5) $$ [H5 HO]
  · isplitr; · iexact HR
    isplitl [H5]; · iexact H5
    iexact HO
  iintro ⟨H5, HO⟩
  iapply (wp_put m c _ (othB c 5) _ (oth_off c 5) _ (oth_blk m c 5)) $$ HP
  iintro HP
  iapply (WP_ret c)
  iapply Hk
  isplitl [H4]; · iexact H4
  isplitl [H5]; · iexact H5
  isplitl [HP]; · iexact HP
  iexact HO

/-- Block 6 of the peer's half is written; its chunk 7 arrives. -/
theorem wp_part16 (v2 v5 v6 v456 : BitVec 32) (P : Finset (Fin 16)) (Q : FVec F S512x1024 .f32 → sProp 𝕄) :
    iprop(records m K ∗ Coming c 6 ∗ Coming c 7 ∗ Out m c P ∗ OW c 0
        ∗ (Came m c 6 ∗ Came m c 7 ∗ Out m c (insert (othB c 6) P) ∗ OW c 0 -∗ Q (outBlk m c (othB c 7))))
      ⊢ WP c (k0_part16 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c v2 v5 v6 (inv m c) v456) Q := by
  rw [k0_part16_eq_skeleton]; unfold k0_part16_skel
  simp only [semSignalWord, semWaitWord, Prog.lift, Prog.bind_op, Prog.bind_ret, Prog.pure_eq_ret]
  iintro ⟨#HR, H6, H7, HP, HO, Hk⟩
  iapply (wp_take m K c 6) $$ [H6 HO]
  · isplitr; · iexact HR
    isplitl [H6]; · iexact H6
    iexact HO
  iintro ⟨H6, HO⟩
  iapply (wp_put m c _ (othB c 6) _ (oth_off c 6) _ (oth_blk m c 6)) $$ HP
  iintro HP
  iapply (wp_take m K c 7) $$ [H7 HO]
  · isplitr; · iexact HR
    isplitl [H7]; · iexact H7
    iexact HO
  iintro ⟨H7, HO⟩
  iapply (WP_ret_of c _ (outBlk m c (othB c 7)) (oth_blk m c 7))
  iapply Hk
  isplitl [H6]; · iexact H6
  isplitl [H7]; · iexact H7
  isplitl [HP]; · iexact HP
  iexact HO

/-- Block 7 of the peer's half is written; the copies of chunks 0 to 3 are finished. -/
theorem wp_part17 (P : Finset (Fin 16)) (Q : PUnit → sProp 𝕄) :
    iprop(records m K ∗ (Sent m c 0 ∗ atPos ER (cell c (bS 0)) 0 ∅ 0) ∗ (Sent m c 1 ∗ atPos ER (cell c (bS 1)) 0 ∅ 0) ∗ (Sent m c 2 ∗ atPos ER (cell c (bS 2)) 0 ∅ 0) ∗ (Sent m c 3 ∗ atPos ER (cell c (bS 3)) 0 ∅ 0) ∗ Out m c P ∗ OW c 0
        ∗ (Done c 0 ∗ Done c 1 ∗ Done c 2 ∗ Done c 3 ∗ Out m c (insert (othB c 7) P) ∗ OW c 0 -∗ Q ⟨⟩))
      ⊢ WP c (k0_part17 xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9 c (outBlk m c (othB c 7))) Q := by
  rw [k0_part17_eq_skeleton]; unfold k0_part17_skel
  simp only [semSignalWord, semWaitWord, Prog.lift, Prog.bind_op, Prog.bind_ret, Prog.pure_eq_ret]
  iintro ⟨#HR, H0, H1, H2, H3, HP, HO, Hk⟩
  iapply (wp_put m c _ (othB c 7) _ (oth_off c 7) _ rfl) $$ HP
  iintro HP
  iapply (wp_done m K c 0) $$ [H0 HO]
  · icases H0 with ⟨Hs, Ha⟩
    isplitr; · iexact HR
    isplitl [Hs]; · iexact Hs
    isplitl [Ha]; · iexact Ha
    iexact HO
  iintro ⟨H0, HO⟩
  iapply (wp_done m K c 1) $$ [H1 HO]
  · icases H1 with ⟨Hs, Ha⟩
    isplitr; · iexact HR
    isplitl [Hs]; · iexact Hs
    isplitl [Ha]; · iexact Ha
    iexact HO
  iintro ⟨H1, HO⟩
  iapply (wp_done m K c 2) $$ [H2 HO]
  · icases H2 with ⟨Hs, Ha⟩
    isplitr; · iexact HR
    isplitl [Hs]; · iexact Hs
    isplitl [Ha]; · iexact Ha
    iexact HO
  iintro ⟨H2, HO⟩
  iapply (wp_done m K c 3) $$ [H3 HO]
  · icases H3 with ⟨Hs, Ha⟩
    isplitr; · iexact HR
    isplitl [Hs]; · iexact Hs
    isplitl [Ha]; · iexact Ha
    iexact HO
  iintro ⟨H3, HO⟩
  iapply (WP_ret c)
  iapply Hk
  isplitl [H0]; · iexact H0
  isplitl [H1]; · iexact H1
  isplitl [H2]; · iexact H2
  isplitl [H3]; · iexact H3
  isplitl [HP]; · iexact HP
  iexact HO

end Cert.Softmax

end
-- ==== Proof.Body.lean ====
/-
# The printed body

The parts in order, at any device: from the buffers, the positions and the rights the device starts with, to the result written, the
activations and the weights unchanged, and every semaphore past its last round.
-/
module

public import proofs.«01_k».proof.Proof.Parts

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

theorem WP_seq {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := Entails.of_eq (WP_bind c p k Q).symm

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- Both duties of the copy of chunk `k`. -/
def BToks (k : Fin 8) : sProp 𝕄 := iprop(dutyTok ER (cell c (bS k)) 0 () ∗ dutyTok ER (cell (peer c) (bR k)) 0 ())

theorem take_one (k : Fin 8) : (iprop(BToks c k ∗ anyAt (peer c) (rV k)) : sProp 𝕄) ⊢ BTake c k := by
  unfold BToks BTake
  iintro ⟨⟨H1, H2⟩, H3⟩
  isplitl [H1]; · iexact H1
  isplitl [H2]; · iexact H2
  iexact H3

theorem takes_each : (bigSep Finset.univ fun k : Fin 8 => (iprop(BToks c k ∗ anyAt (peer c) (rV k)) : sProp 𝕄)) ⊢ bigSep Finset.univ fun k : Fin 8 => BTake c k :=
  bigSep_mono fun k _ => take_one c k

/-- With the peer's receive buffers, every copy of a chunk may be made. -/
theorem takes : iprop(barPay c ∗ bigSep Finset.univ fun k : Fin 8 => BToks c k)
    ⊢ iprop((bigSep Finset.univ fun k : Fin 8 => BTake c k) ∗ anyAt (F := F) (peer c) uM) := by
  unfold barPay
  iintro ⟨⟨Hr, Hu⟩, Ht⟩
  isplitl [Hr Ht]
  · ihave H := (Entails.of_eq (bigSep_sep' Finset.univ (fun k : Fin 8 => BToks (F := F) c k) (fun k : Fin 8 => anyAt (F := F) (peer c) (rV k))).symm) $$ [Hr Ht]
    · isplitl [Ht]; · iexact Ht
      iexact Hr
    iapply (takes_each c)
    iexact H
  iexact Hu

/-- What the body starts from. -/
def bodyIn : sProp 𝕄 :=
  iprop(records m K ∗ OW c (O₀ c) ∗ dutyTok ER (barCell (peer c)) 0 () ∗ ((bigSep Finset.univ fun k : Fin 8 => anyAt c (rV k)) ∗ anyAt c uM)
    ∗ (cred (tallyAt (barCell c) () 1) ∗ atPos ER (barCell c) 0 ∅ 0) ∗ WIdle c 0 ∗ WIdle c 1
    ∗ (bigSep Finset.univ fun k : Fin 8 => WTake m c k) ∗ (bigSep Finset.univ fun k : Fin 8 => anyAt c (sV k)) ∗ anyAt c tM
    ∗ (bigSep Finset.univ fun k : Fin 8 => BToks c k) ∗ (dutyTok ER (cell c stS) 0 () ∗ dutyTok ER (cell (peer c) stR) 0 ())
    ∗ atPos ER (cell c stS) 0 ∅ 0 ∗ (cred (tallyAt (cell c stR) () NS) ∗ atPos ER (cell c stR) 0 ∅ 0)
    ∗ (bigSep Finset.univ fun k : Fin 8 => Coming c k) ∗ (bigSep Finset.univ fun k : Fin 8 => atPos ER (cell c (bS k)) 0 ∅ 0)
    ∗ stg c cc0_stg0_0 (xstg m c) ∗ Out m c ∅)

/-- What it leaves. -/
def bodyOut : sProp 𝕄 :=
  iprop(OW c 0 ∗ stg c cc0_stg0_0 (xstg m c) ∗ Out m c Finset.univ ∗ atPos ER (barCell c) 1 ∅ 0 ∗ WFull m c 6 ∗ WFull m c 7
    ∗ (bigSep Finset.univ fun k : Fin 8 => wPts m c k) ∗ (stSPay m c ∗ atPos ER (cell c stS) 1 ∅ 0) ∗ (stRPay m c ∗ atPos ER (cell c stR) 1 ∅ 0)
    ∗ (bigSep Finset.univ fun k : Fin 8 => Came m c k) ∗ (bigSep Finset.univ fun k : Fin 8 => Done c k))

/-- Every column block is written. -/
theorem all_written : (insert (othB c 7) (insert (othB c 6) (insert (othB c 5) (insert (othB c 4) (insert (othB c 3) (insert (othB c 2) (insert (othB c 1) (insert (othB c 0) (insert (ownB c 7) (insert (ownB c 6) (insert (ownB c 5) (insert (ownB c 4) (insert (ownB c 3) (insert (ownB c 2) (insert (ownB c 1) (insert (ownB c 0) (∅ : Finset (Fin 16)))))))))))))))))) = Finset.univ := by
  revert c; decide

/-- The body at device `c`. -/
theorem wp_body (Q : PUnit → sProp 𝕄) :
    iprop(bodyIn m K c ∗ (bodyOut m c -∗ |={Set.univ}=> Q ⟨⟩))
      ⊢ WP c (cc0_body xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9) Q := by
  rw [cc0_body_eq_skeleton]; unfold cc0_body_skel bodyIn
  simp only [bigSep_fin8 (fun k => WTake m c k), bigSep_fin8 (fun k => anyAt (F := F) c (sV k)), bigSep_fin8 (fun k => Coming (F := F) c k), bigSep_fin8 (fun k => (atPos ER (cell c (bS k)) 0 ∅ 0 : sProp 𝕄))]
  iintro ⟨⟨#HR, HO, Htb, Hrecv, Hbar, W0, W1, ⟨V0, V1, V2, V3, V4, V5, V6, V7⟩, ⟨S0, S1, S2, S3, S4, S5, S6, S7⟩, Ht, HT,
    ⟨Hts, Htr⟩, Has, Hsr, ⟨C0, C1, C2, C3, C4, C5, C6, C7⟩, ⟨A0, A1, A2, A3, A4, A5, A6, A7⟩, Hx, HP⟩, Hk⟩
  iapply (WP_seq c _ _ _)
  iapply (wp_part1 m K c _)
  isplitr; · iexact HR
  isplitl [HO]; · iexact HO
  isplitl [Htb]; · iexact Htb
  isplitl [Hrecv]; · iexact Hrecv
  isplitl [Hbar]; · iexact Hbar
  isplitl [W0 V0]
  · isplitl [W0]; · iexact W0
    iexact V0
  isplitl [W1 V1]
  · isplitl [W1]; · iexact W1
    iexact V1
  isplitl [Hx]; · iexact Hx
  iintro %v2 %v5 %v6 ⟨Hp, Hab, HO, W0, W1, Hx⟩
  ihave Hp := (takes c) $$ [Hp HT]
  · isplitl [Hp]; · iexact Hp
    iexact HT
  icases Hp with ⟨HT, Hpu⟩
  ihave HT := (Entails.of_eq (bigSep_fin8 fun k => BTake (F := F) c k)) $$ HT
  icases HT with ⟨T0, T1, T2, T3, T4, T5, T6, T7⟩
  iapply (WP_seq c _ _ _)
  iapply (wp_part2 m K c v5 v6 _)
  isplitr; · iexact HR
  isplitl [W0]; · iexact W0
  isplitl [S0]; · iexact S0
  isplitl [T0]; · iexact T0
  isplitl [HO]; · iexact HO
  iintro ⟨W0, P0, S0, HO⟩
  iapply (WP_seq c _ _ _)
  iapply (wp_part3 m K c v5 v6 _)
  isplitr; · iexact HR
  isplitl [W0]; · iexact W0
  isplitl [V2]; · iexact V2
  isplitl [W1]; · iexact W1
  isplitl [S1]; · iexact S1
  isplitl [T1]; · iexact T1
  isplitl [HO]; · iexact HO
  iintro ⟨W2, W1, P1, S1, HO⟩
  iapply (WP_seq c _ _ _)
  iapply (wp_part4 m K c v5 v6 _)
  isplitr; · iexact HR
  isplitl [W1]; · iexact W1
  isplitl [V3]; · iexact V3
  isplitl [W2]; · iexact W2
  isplitl [S2]; · iexact S2
  isplitl [T2]; · iexact T2
  isplitl [HO]; · iexact HO
  iintro ⟨W3, W2, P2, S2, HO⟩
  iapply (WP_seq c _ _ _)
  iapply (wp_part5 m K c v5 v6 _)
  isplitr; · iexact HR
  isplitl [W2]; · iexact W2
  isplitl [V4]; · iexact V4
  isplitl [W3]; · iexact W3
  isplitl [S3]; · iexact S3
  isplitl [HO]; · iexact HO
  iintro ⟨W4, W3, P3, S3, HO⟩
  iapply (WP_seq c _ _ _)
  iapply (wp_part6 m K c v5 v6 _)
  isplitr; · iexact HR
  isplitl [S3 T3]
  · isplitl [S3]; · iexact S3
    iexact T3
  isplitl [W3]; · iexact W3
  isplitl [V5]; · iexact V5
  isplitl [W4]; · iexact W4
  isplitl [S4]; · iexact S4
  isplitl [HO]; · iexact HO
  iintro ⟨S3, W5, W4, P4, S4, HO⟩
  iapply (WP_seq c _ _ _)
  iapply (wp_part7 m K c v5 v6 _)
  isplitr; · iexact HR
  isplitl [S4 T4]
  · isplitl [S4]; · iexact S4
    iexact T4
  isplitl [W4]; · iexact W4
  isplitl [V6]; · iexact V6
  isplitl [W5]; · iexact W5
  isplitl [S5]; · iexact S5
  isplitl [HO]; · iexact HO
  iintro ⟨S4, W6, W5, P5, S5, HO⟩
  iapply (WP_seq c _ _ _)
  iapply (wp_part8 m K c _)
  isplitr; · iexact HR
  isplitl [S5 T5]
  · isplitl [S5]; · iexact S5
    iexact T5
  isplitl [W5]; · iexact W5
  isplitl [V7]; · iexact V7
  isplitl [W6]; · iexact W6
  isplitl [S6]; · iexact S6
  isplitl [HO]; · iexact HO
  iintro ⟨S5, W7, W6, P6, S6, HO⟩
  iapply (WP_seq c _ _ _)
  iapply (wp_part9 m K c v5 v6 _)
  isplitr; · iexact HR
  isplitl [W7]; · iexact W7
  isplitl [S7]; · iexact S7
  isplitl [Ht]; · iexact Ht
  isplitl [Hts Htr Hpu]
  · isplitl [Hts]; · iexact Hts
    isplitl [Htr]; · iexact Htr
    iexact Hpu
  isplitl [HO]; · iexact HO
  iintro ⟨W7, P7, S7, Hcs, HO⟩
  iapply (WP_seq c _ _ _)
  iapply (wp_part10 m K c v2 v5 v6 _ ∅)
  isplitr; · iexact HR
  isplitl [S6 T6]
  · isplitl [S6]; · iexact S6
    iexact T6
  isplitl [S7 T7]
  · isplitl [S7]; · iexact S7
    iexact T7
  isplitl [Hcs Has]
  · isplitl [Hcs]; · iexact Hcs
    iexact Has
  isplitl [Hsr]; · iexact Hsr
  isplitl [S0]; · iexact S0
  isplitl [S1]; · iexact S1
  isplitl [HP]; · iexact HP
  isplitl [HO]; · iexact HO
  iintro %v301 ⟨S6, S7, Hs, Hr, S0, S1, HP, HO⟩
  iapply (WP_seq c _ _ _)
  iapply (wp_part11 m c v2 v301 _ _)
  isplitl [S2]; · iexact S2
  isplitl [S3]; · iexact S3
  isplitl [S4]; · iexact S4
  isplitl [S5]; · iexact S5
  isplitl [HP]; · iexact HP
  iintro ⟨S2, S3, S4, S5, HP⟩
  iapply (WP_seq c _ _ _)
  iapply (wp_part12 m K c v2 v5 v6 _ _)
  isplitr; · iexact HR
  isplitl [S6]; · iexact S6
  isplitl [S7]; · iexact S7
  isplitl [C0]; · iexact C0
  isplitl [HP]; · iexact HP
  isplitl [HO]; · iexact HO
  iintro %v367 ⟨S6, S7, C0, HP, HO⟩
  iapply (WP_seq c _ _ _)
  iapply (wp_part13 m K c v2 v5 v6 v367 _ _)
  isplitr; · iexact HR
  isplitl [C1]; · iexact C1
  isplitl [C2]; · iexact C2
  isplitl [HP]; · iexact HP
  isplitl [HO]; · iexact HO
  iintro ⟨C1, C2, HP, HO⟩
  iapply (WP_seq c _ _ _)
  iapply (wp_part14 m K c v2 v5 v6 _ _)
  isplitr; · iexact HR
  isplitl [C3]; · iexact C3
  isplitl [HP]; · iexact HP
  isplitl [HO]; · iexact HO
  iintro ⟨C3, HP, HO⟩
  iapply (WP_seq c _ _ _)
  iapply (wp_part15 m K c v2 v5 v6 _ _)
  isplitr; · iexact HR
  isplitl [C4]; · iexact C4
  isplitl [C5]; · iexact C5
  isplitl [HP]; · iexact HP
  isplitl [HO]; · iexact HO
  iintro %v456 ⟨C4, C5, HP, HO⟩
  iapply (WP_seq c _ _ _)
  iapply (wp_part16 m K c v2 v5 v6 v456 _ _)
  isplitr; · iexact HR
  isplitl [C6]; · iexact C6
  isplitl [C7]; · iexact C7
  isplitl [HP]; · iexact HP
  isplitl [HO]; · iexact HO
  iintro ⟨C6, C7, HP, HO⟩
  iapply (WP_seq c _ _ _)
  iapply (wp_part17 m K c _ _)
  isplitr; · iexact HR
  isplitl [S0 A0]
  · isplitl [S0]; · iexact S0
    iexact A0
  isplitl [S1 A1]
  · isplitl [S1]; · iexact S1
    iexact A1
  isplitl [S2 A2]
  · isplitl [S2]; · iexact S2
    iexact A2
  isplitl [S3 A3]
  · isplitl [S3]; · iexact S3
    iexact A3
  isplitl [HP]; · iexact HP
  isplitl [HO]; · iexact HO
  iintro ⟨S0, S1, S2, S3, HP, HO⟩
  simp only [Prog.lift, Prog.bind_op, Prog.bind_ret, Prog.pure_eq_ret]
  iapply (wp_done m K c 4) $$ [S4 A4 HO]
  · isplitr; · iexact HR
    isplitl [S4]; · iexact S4
    isplitl [A4]; · iexact A4
    iexact HO
  iintro ⟨S4, HO⟩
  iapply (wp_done m K c 5) $$ [S5 A5 HO]
  · isplitr; · iexact HR
    isplitl [S5]; · iexact S5
    isplitl [A5]; · iexact A5
    iexact HO
  iintro ⟨S5, HO⟩
  iapply (wp_done m K c 6) $$ [S6 A6 HO]
  · isplitr; · iexact HR
    isplitl [S6]; · iexact S6
    isplitl [A6]; · iexact A6
    iexact HO
  iintro ⟨S6, HO⟩
  iapply (wp_done m K c 7) $$ [S7 A7 HO]
  · isplitr; · iexact HR
    isplitl [S7]; · iexact S7
    isplitl [A7]; · iexact A7
    iexact HO
  iintro ⟨S7, HO⟩
  iapply (WP_ret_fupd c)
  iapply Hk
  unfold bodyOut
  rw [bigSep_fin8, bigSep_fin8, bigSep_fin8]
  isplitl [HO]; · iexact HO
  isplitl [Hx]; · iexact Hx
  isplitl [HP]; · iapply (Entails.of_eq (congrArg (Out m c) (all_written c))); iexact HP
  isplitl [Hab]; · iexact Hab
  isplitl [W6]; · iexact W6
  isplitl [W7]; · iexact W7
  isplitl [P0 P1 P2 P3 P4 P5 P6 P7]
  · isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [Hs]; · iexact Hs
  isplitl [Hr]; · iexact Hr
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

end Cert.Softmax

end
-- ==== Proof.Cells.lean ====
/-
# The buffers in pieces, the semaphores closed

Each buffer the copies move in chunks is held chunk by chunk during the body: here it is cut at entry and put together at
exit. At exit every semaphore is past its last round, and its counter is handed back at zero.
-/
module

public import proofs.«01_k».proof.Proof.Body
public import Idealize.ShloMosaic.Lib.Ring

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## Pieces -/

theorem cols_disj (k k' : Fin 8) (h : k ≠ k') : Disjoint (cols k).set (cols k').set := by
  rw [Finset.disjoint_left]; intro i hi hi'
  have h1 : 1024 * k.val ≤ (i 1).val ∧ (i 1).val < 1024 * k.val + 1024 := Rect.mem_set_unit.mp hi 1
  have h2 : 1024 * k'.val ≤ (i 1).val ∧ (i 1).val < 1024 * k'.val + 1024 := Rect.mem_set_unit.mp hi' 1
  exact h (Fin.ext (by omega))

theorem cols_cover : Finset.univ.biUnion (fun k => (cols k).set) = Finset.univ := by
  ext i; simp only [Finset.mem_biUnion, Finset.mem_univ, true_and, iff_true]
  have h0 : (i 0).val < 512 := (i 0).isLt
  have h1 : (i 1).val < 8192 := (i 1).isLt
  refine ⟨⟨(i 1).val / 1024, by omega⟩, Rect.mem_set_unit.mpr fun a => ?_⟩
  match a with
  | ⟨0, _⟩ => exact ⟨Nat.zero_le _, by show (i 0).val < 0 + 512; omega⟩
  | ⟨1, _⟩ => exact ⟨by show 1024 * ((i 1).val / 1024) ≤ (i 1).val; omega, by show (i 1).val < 1024 * ((i 1).val / 1024) + 1024; omega⟩

theorem wcols_disj (k k' : Fin 8) (h : k ≠ k') : Disjoint (wcols k).set (wcols k').set := by
  rw [Finset.disjoint_left]; intro i hi hi'
  have h1 : 1024 * k.val ≤ (i 1).val ∧ (i 1).val < 1024 * k.val + 1024 := Rect.mem_set_unit.mp hi 1
  have h2 : 1024 * k'.val ≤ (i 1).val ∧ (i 1).val < 1024 * k'.val + 1024 := Rect.mem_set_unit.mp hi' 1
  exact h (Fin.ext (by omega))

theorem wcols_cover : Finset.univ.biUnion (fun k => (wcols k).set) = Finset.univ := by
  ext i; simp only [Finset.mem_biUnion, Finset.mem_univ, true_and, iff_true]
  have h0 : (i 0).val < 1024 := (i 0).isLt
  have h1 : (i 1).val < 8192 := (i 1).isLt
  refine ⟨⟨(i 1).val / 1024, by omega⟩, Rect.mem_set_unit.mpr fun a => ?_⟩
  match a with
  | ⟨0, _⟩ => exact ⟨Nat.zero_le _, by show (i 0).val < 0 + 1024; omega⟩
  | ⟨1, _⟩ => exact ⟨by show 1024 * ((i 1).val / 1024) ≤ (i 1).val; omega, by show (i 1).val < 1024 * ((i 1).val / 1024) + 1024; omega⟩

theorem slot_disj (s s' : Fin 2) (h : s ≠ s') : Disjoint (slotR s).set (slotR s').set := by
  rw [Finset.disjoint_left]; intro i hi hi'
  have h1 : s.val ≤ (i 0).val ∧ (i 0).val < s.val + 1 := Rect.mem_set_unit.mp hi 0
  have h2 : s'.val ≤ (i 0).val ∧ (i 0).val < s'.val + 1 := Rect.mem_set_unit.mp hi' 0
  exact h (Fin.ext (by omega))

theorem slot_cover : Finset.univ.biUnion (fun s => (slotR s).set) = Finset.univ := by
  ext i; simp only [Finset.mem_biUnion, Finset.mem_univ, true_and, iff_true]
  have h0 : (i 0).val < 2 := (i 0).isLt
  have h1 : (i 1).val < 1024 := (i 1).isLt
  have h2 : (i 2).val < 1024 := (i 2).isLt
  refine ⟨⟨(i 0).val, h0⟩, Rect.mem_set_unit.mpr fun a => ?_⟩
  match a with
  | ⟨0, _⟩ => exact ⟨le_refl _, by show (i 0).val < (i 0).val + 1; omega⟩
  | ⟨1, _⟩ => exact ⟨Nat.zero_le _, by show (i 1).val < 0 + 1024; omega⟩
  | ⟨2, _⟩ => exact ⟨Nat.zero_le _, by show (i 2).val < 0 + 1024; omega⟩

theorem sV_set (k : Fin 8) : (sV k).view.set = (cols k).set := View.set_slice_whole cc0_scratch1 (cols k)
theorem rV_set (k : Fin 8) : (rV k).view.set = (cols k).set := View.set_slice_whole cc0_scratch2 (cols k)
theorem wV_set (k : Fin 8) : (wV k).view.set = (wcols k).set := View.set_slice_whole main_arg1 (wcols k)
theorem bV_set (s : Fin 2) : (bV s).view.set = (slotR s).set :=
  (View.set_reshape _ _).trans (View.set_slice_whole cc0_scratch0 (slotR s))

/-- A buffer of device `c` held whole, at any contents. -/
abbrev bufAny (b : Ref sig .tc) : sProp 𝕄 := iprop(∃ f : Buf (Elt F) ((c : Thread nD τ).loc b), ((c : Thread nD τ).loc b) ↦{fullShare} f)

/-- A buffer held whole is held in pieces, each at some contents. -/
theorem cut (b : Ref sig .tc) {T : Type} [Fintype T] (I : T → Finset (Idx ((c : Thread nD τ).loc b)))
    (hd : ∀ t t', t ≠ t' → Disjoint (I t) (I t')) (hc : Finset.univ.biUnion I = Finset.univ) :
    (bufAny c b : sProp 𝕄) ⊢ bigSep Finset.univ fun t => iprop(∃ f, ((c : Thread nD τ).loc b) ↦[I t]{fullShare} f) := by
  have hm (f : Buf (Elt F) ((c : Thread nD τ).loc b)) :
      (bigSep Finset.univ (fun t => (((c : Thread nD τ).loc b) ↦[I t]{fullShare} f)) : sProp 𝕄)
        ⊢ bigSep Finset.univ fun t => iprop(∃ f, ((c : Thread nD τ).loc b) ↦[I t]{fullShare} f) := by
    have h1 (t : T) : (((c : Thread nD τ).loc b) ↦[I t]{fullShare} f : sProp 𝕄) ⊢ iprop(∃ f, ((c : Thread nD τ).loc b) ↦[I t]{fullShare} f) := by
      iintro H; iexists f; iexact H
    exact bigSep_mono fun t _ => h1 t
  iintro ⟨%f, H⟩
  iapply (hm f)
  iapply (Entails.of_eq (pointsTo_blocks (Ix := Unit) (Name := ℕ) (U := UU) (Lvl := ℕ) I hd hc f)); iexact H

theorem cut_s : (bufAny c cc0_scratch1 : sProp 𝕄) ⊢ bigSep Finset.univ fun k => anyAt c (sV k) := by
  have h := cut (F := F) c cc0_scratch1 (fun k => (cols k).set) cols_disj cols_cover
  simp only [← sV_set] at h; exact h
theorem cut_r : (bufAny c cc0_scratch2 : sProp 𝕄) ⊢ bigSep Finset.univ fun k => anyAt c (rV k) := by
  have h := cut (F := F) c cc0_scratch2 (fun k => (cols k).set) cols_disj cols_cover
  simp only [← rV_set] at h; exact h
theorem cut_b : (bufAny c cc0_scratch0 : sProp 𝕄) ⊢ bigSep Finset.univ fun s => anyAt c (bV s) := by
  have h := cut (F := F) c cc0_scratch0 (fun s => (slotR s).set) slot_disj slot_cover
  simp only [← bV_set] at h; exact h

/-- Any contents of a buffer. -/
def someBuf (b : Ref sig .tc) : Buf (Elt F) ((c : Thread nD τ).loc b) := fun _ => Classical.arbitrary _

theorem paste_s : (bigSep Finset.univ fun k => anyAt c (sV k) : sProp 𝕄) ⊢ bufAny c cc0_scratch1 := by
  have h := pointsTo_blocks_join_exists (Ix := Unit) (Name := ℕ) (U := UU) (Lvl := ℕ) (ℓ := (c : Thread nD τ).loc cc0_scratch1)
    (fun k => (cols k).set) cols_disj cols_cover (q := fullShare) (someBuf (F := F) c cc0_scratch1)
  simp only [← sV_set] at h; exact h
theorem paste_r : (bigSep Finset.univ fun k => anyAt c (rV k) : sProp 𝕄) ⊢ bufAny c cc0_scratch2 := by
  have h := pointsTo_blocks_join_exists (Ix := Unit) (Name := ℕ) (U := UU) (Lvl := ℕ) (ℓ := (c : Thread nD τ).loc cc0_scratch2)
    (fun k => (cols k).set) cols_disj cols_cover (q := fullShare) (someBuf (F := F) c cc0_scratch2)
  simp only [← rV_set] at h; exact h
theorem paste_b : (bigSep Finset.univ fun s => anyAt c (bV s) : sProp 𝕄) ⊢ bufAny c cc0_scratch0 := by
  have h := pointsTo_blocks_join_exists (Ix := Unit) (Name := ℕ) (U := UU) (Lvl := ℕ) (ℓ := (c : Thread nD τ).loc cc0_scratch0)
    (fun s => (slotR s).set) slot_disj slot_cover (q := fullShare) (someBuf (F := F) c cc0_scratch0)
  simp only [← bV_set] at h; exact h

theorem any_t : (anyAt c tM : sProp 𝕄) = bufAny c cc0_scratch3 := by
  have h : tM.view.set = (Finset.univ : Finset tM.view.ty.Idx) := View.set_whole _
  unfold anyAt; rw [h]
theorem any_u : (anyAt c uM : sProp 𝕄) = bufAny c cc0_scratch4 := by
  have h : uM.view.set = (Finset.univ : Finset uM.view.ty.Idx) := View.set_whole _
  unfold anyAt; rw [h]

/-- The weights, whole and in chunks. -/
theorem w_chunks : (((c : Thread nD τ).loc main_arg1 ↦{fullShare} m ((c : Thread nD τ).loc main_arg1)) : sProp 𝕄)
    = bigSep Finset.univ fun k => wPts m c k := by
  have h := pointsTo_blocks (Ix := Unit) (Name := ℕ) (U := UU) (Lvl := ℕ) (ℓ := (c : Thread nD τ).loc main_arg1)
    (fun k => (wcols k).set) wcols_disj wcols_cover (q := fullShare) (m ((c : Thread nD τ).loc main_arg1))
  simp only [← wV_set] at h; exact h

/-! ## Families over the semaphores -/

theorem bigSep_OI (Φ : OI → sProp 𝕄) : bigSep Finset.univ Φ
    = iprop((bigSep Finset.univ fun k => Φ (.inl k)) ∗ (bigSep Finset.univ fun k => Φ (.inr (.inl k)))
      ∗ (Φ (.inr (.inr (.inl 0))) ∗ Φ (.inr (.inr (.inl 1)))) ∗ (Φ (.inr (.inr (.inr 0))) ∗ Φ (.inr (.inr (.inr 1))))) := by
  rw [bigSep_univ_sum, bigSep_univ_sum, bigSep_univ_sum, bigSep_fin_two, bigSep_fin_two]; rfl

theorem bigSep_CI (Φ : CI → sProp 𝕄) : bigSep Finset.univ Φ = iprop((bigSep Finset.univ fun i => Φ (.inl i)) ∗ Φ (.inr ())) := by
  rw [bigSep_univ_sum, bigSep_univ_of_subsingleton ()]; rfl

theorem with_persistent {T : Type} [DecidableEq T] {S : Finset T} {R : sProp 𝕄} [BI.Persistent R] {Φ Ψ : T → sProp 𝕄}
    (h : ∀ t ∈ S, iprop(R ∗ Φ t) ⊢ Ψ t) : iprop(R ∗ bigSep S Φ) ⊢ bigSep S Ψ :=
  (sep_mono_left (BI.bigSep_of_persistent S R)).trans (by rw [← bigSep_sep']; exact bigSep_mono h)

/-- Every semaphore of device `c` past its last round. -/
def spent : sProp 𝕄 := bigSep Finset.univ fun i : CI => atPos ER (kcell (c, i)) (roundsOf (csem i)) ∅ 0

theorem unscopedSems_eq : (unscopedSems0 c : sProp 𝕄) = semVal (barCell c) 0 := by
  unfold unscopedSems0; rw [bigSep_eq_bigSepL_of_eq [SemLoc.reg barS] (by decide) (by decide)]; rfl

/-- The kernel's own semaphores and the barrier at zero, as one family. -/
theorem zero_eq : (iprop(Pipeline.ownSems0 osem c ∗ unscopedSems0 c) : sProp 𝕄) = bigSep Finset.univ fun i : CI => semVal (kcell (c, i)) 0 := by
  rw [bigSep_CI, unscopedSems_eq]; rfl

theorem close_all : iprop(records m K ∗ spent c) ⊢ |={Set.univ}=> iprop(Pipeline.ownSems0 osem c ∗ unscopedSems0 c) := by
  rw [zero_eq]; unfold spent
  refine (with_persistent (R := records m K) (Ψ := fun i : CI => iprop(cellInv ER (Rd m) (K (c, i)) (kcell (c, i)) ∗ atPos ER (kcell (c, i)) (roundsOf (csem i)) ∅ 0)) fun i _ => ?_).trans
    (Rounds.cells_close ER (Rd m) Finset.univ (fun i : CI => kcell (c, i)) (fun i => K (c, i)) (fun _ _ => Set.mem_univ _) (fun _ _ h => h)
      (fun i => roundsOf (csem i)) fun i _ => duties_later m c (csem i) (le_refl _))
  iintro ⟨#HR, H⟩
  isplitr; · iapply (records_inv m K (c, i)); iexact HR
  iexact H

end Cert.Softmax

end
-- ==== Proof.Edges.lean ====
/-
# Entering and leaving the body

What a device holds when its kernel starts, dealt to the operations of the body; and what the body leaves, gathered.
-/
module

public import proofs.«01_k».proof.Proof.Cells

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-- The tokens of the payments device `c` makes. -/
def payToks : sProp 𝕄 :=
  iprop((bigSep Finset.univ fun k : Fin 8 => dutyTok ER (cell c (bS k)) 0 ()) ∗ (bigSep Finset.univ fun k : Fin 8 => dutyTok ER (cell (peer c) (bR k)) 0 ())
    ∗ (bigSep Finset.univ fun k : Fin 8 => dutyTok ER (wcell c k) (k.val / 2) ())
    ∗ (dutyTok ER (cell c stS) 0 () ∗ dutyTok ER (cell (peer c) stR) 0 ()) ∗ dutyTok ER (barCell (peer c)) 0 ())

/-- Its place at the start of every semaphore, and those tokens. -/
def linear : sProp 𝕄 := iprop((bigSep Finset.univ fun i : CI => atPos ER (kcell (c, i)) 0 ∅ 0) ∗ payToks c)

/-- What its peer owes it. -/
def creds : sProp 𝕄 :=
  iprop(cred (tallyAt (barCell c) () 1) ∗ cred (tallyAt (cell c stR) () NS) ∗ bigSep Finset.univ fun k : Fin 8 => cred (tallyAt (cell c (bR k)) () NB))

/-- The weights, as launched. -/
abbrev wHeld : sProp 𝕄 := iprop((c : Thread nD τ).loc main_arg1 ↦{fullShare} m ((c : Thread nD τ).loc main_arg1))

/-- What a device starts from, besides its buffers. -/
def start : sProp 𝕄 := iprop((∃ K, records m K ∗ linear c) ∗ creds c ∗ wHeld m c)

theorem pos_eq : (bigSep Finset.univ fun i : CI => (atPos ER (kcell (c, i)) 0 ∅ 0 : sProp 𝕄))
    = iprop(((bigSep Finset.univ fun k : Fin 8 => atPos ER (cell c (bS k)) 0 ∅ 0) ∗ (bigSep Finset.univ fun k : Fin 8 => atPos ER (cell c (bR k)) 0 ∅ 0)
      ∗ (atPos ER (wcell c 0) 0 ∅ 0 ∗ atPos ER (wcell c 1) 0 ∅ 0) ∗ (atPos ER (cell c stS) 0 ∅ 0 ∗ atPos ER (cell c stR) 0 ∅ 0)) ∗ atPos ER (barCell c) 0 ∅ 0) := by
  rw [bigSep_CI, bigSep_OI]; rfl

theorem spent_eq : (spent c : sProp 𝕄)
    = iprop(((bigSep Finset.univ fun k : Fin 8 => atPos ER (cell c (bS k)) 1 ∅ 0) ∗ (bigSep Finset.univ fun k : Fin 8 => atPos ER (cell c (bR k)) 1 ∅ 0)
      ∗ (atPos ER (wcell c 6) 4 ∅ 0 ∗ atPos ER (wcell c 7) 4 ∅ 0) ∗ (atPos ER (cell c stS) 1 ∅ 0 ∗ atPos ER (cell c stR) 1 ∅ 0)) ∗ atPos ER (barCell c) 1 ∅ 0) := by
  unfold spent
  rw [bigSep_CI, bigSep_OI]
  have h1 (k : Fin 8) : roundsOf (csem (.inl (.inl k))) = 1 := rounds_one (by show 4 ≤ 6 + k.val; omega)
  have h2 (k : Fin 8) : roundsOf (csem (.inl (.inr (.inl k)))) = 1 := rounds_one (by show 4 ≤ 14 + k.val; omega)
  simp only [h1, h2]; rfl

theorem two_slots : (bigSep Finset.univ fun s => anyAt (F := F) c (bV s)) = iprop(anyAt c (bV 0) ∗ anyAt c (bV 1)) := bigSep_fin_two _

/-- Device `c` enters the body. -/
theorem body_enter :
    iprop(records m K ∗ linear c ∗ creds c ∗ wHeld m c ∗ Pipeline.scopedRest cfg0.spec c ∗ OW c (O₀ c) ∗ stg c cc0_stg0_0 (xstg m c) ∗ Out m c ∅)
      ⊢ bodyIn m K c := by
  rw [scopedRest0_eq]
  unfold linear payToks creds bodyIn WIdle WTake BToks Coming
  rw [pos_eq, bigSep_sep', bigSep_sep', bigSep_sep', ← w_chunks m c]
  iintro ⟨#HR, ⟨⟨⟨AS, AR, ⟨A0, A1⟩, Ats, Atr⟩, Ab⟩, TS, TR, TW, Tt, Tb⟩, ⟨Cb, Ct, CR⟩, HW, ⟨B0, B1, B2, B3, B4⟩, HO, Hx, HP⟩
  ihave B0 := (cut_b (F := F) c) $$ B0
  ihave B0 := (Entails.of_eq (two_slots (F := F) c)) $$ B0
  icases B0 with ⟨B00, B01⟩
  isplitr; · iexact HR
  isplitl [HO]; · iexact HO
  isplitl [Tb]; · iexact Tb
  isplitl [B2 B4]
  · isplitl [B2]; · iapply (cut_r (F := F) c); iexact B2
    iapply (Entails.of_eq (any_u (F := F) c).symm); iexact B4
  isplitl [Cb Ab]
  · isplitl [Cb]; · iexact Cb
    iexact Ab
  isplitl [A0 B00]
  · isplitl [A0]; · iexact A0
    isplitr; · iapply (reached_dma m K c (q := wS 0) (by decide)); iexact HR
    iexact B00
  isplitl [A1 B01]
  · isplitl [A1]; · iexact A1
    isplitr; · iapply (reached_dma m K c (q := wS 1) (by decide)); iexact HR
    iexact B01
  isplitl [HW TW]
  · isplitl [HW]; · iexact HW
    iexact TW
  isplitl [B1]; · iapply (cut_s (F := F) c); iexact B1
  isplitl [B3]; · iapply (Entails.of_eq (any_t (F := F) c).symm); iexact B3
  isplitl [TS TR]
  · isplitl [TS]; · iexact TS
    iexact TR
  isplitl [Tt]; · iexact Tt
  isplitl [Ats]; · iexact Ats
  isplitl [Ct Atr]
  · isplitl [Ct]; · iexact Ct
    iexact Atr
  isplitl [CR AR]
  · isplitl [CR]; · iexact CR
    iexact AR
  isplitl [AS]; · iexact AS
  isplitl [Hx]; · iexact Hx
  iexact HP

theorem each_any : (bigSep Finset.univ fun k : Fin 8 => bRPay m c k) ⊢ bigSep Finset.univ fun k : Fin 8 => anyAt (F := F) c (rV k) := by
  have h (k : Fin 8) : bRPay m c k ⊢ anyAt c (rV k) := by unfold bRPay; exact owns_any c (rV k) _
  exact bigSep_mono fun k _ => h k

/-- Device `c` leaves it. -/
theorem body_leave : bodyOut m c
    ⊢ iprop(OW c 0 ∗ stg c cc0_stg0_0 (xstg m c) ∗ Out m c Finset.univ ∗ Pipeline.scopedRest cfg0.spec c ∗ wHeld m c ∗ spent c) := by
  rw [scopedRest0_eq, spent_eq]
  unfold bodyOut WFull Came Done wHeld stSPay stRPay
  rw [bigSep_sep', bigSep_sep', w_chunks m c]
  iintro ⟨HO, Hx, HP, Ab, ⟨A0, -, B0⟩, ⟨A1, -, B1⟩, HW, ⟨Hs, As⟩, ⟨Hr, Ar⟩, ⟨PR, AR⟩, PS, AS⟩
  isplitl [HO]; · iexact HO
  isplitl [Hx]; · iexact Hx
  isplitl [HP]; · iexact HP
  isplitl [B0 B1 Hs Hr PR PS]
  · isplitl [B0 B1]
    · iapply (paste_b (F := F) c)
      iapply (Entails.of_eq (two_slots (F := F) c).symm)
      isplitl [B0]; · iapply (owns_any c (bV 0) (wChunk m c 6)); iexact B0
      iapply (owns_any c (bV 1) (wChunk m c 7)); iexact B1
    isplitl [PS]; · iapply (paste_s (F := F) c); iexact PS
    isplitl [PR]; · iapply (paste_r (F := F) c); iapply (each_any m c); iexact PR
    isplitl [Hs]
    · iapply (Entails.of_eq (any_t (F := F) c)); iapply (owns_any c tM (stat m c)); iexact Hs
    iapply (Entails.of_eq (any_u (F := F) c)); iapply (owns_any c uM (stat m (peer c))); iexact Hr
  isplitl [HW]; · iexact HW
  isplitr [Ab]
  · isplitl [AS]; · iexact AS
    isplitl [AR]; · iexact AR
    isplitl [A0 A1]
    · isplitl [A0]; · iexact A0
      iexact A1
    isplitl [As]; · iexact As
    iexact Ar
  iexact Ab

end Cert.Softmax

end
-- ==== Proof.Ghost.lean ====
/-
# The ghost state of a launch

The exchange's cells, positions and tokens come from the launch's one element. Every device starts its own semaphores'
cells; the tokens of the payments a device makes to its peer come from its peer's share. What its peer owes a device is
what it may wait for.
-/
module

public import proofs.«01_k».proof.Proof.Edges

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## Cells and tokens -/

theorem csem_injective : Function.Injective csem := by decide

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

def allCells : Finset (GSem nD τ sig) := Finset.univ.map ⟨kcell, kcell_injective⟩

/-- The payments a device's semaphores take: chunks read, chunks arrived, weights, row sums (read, arrived), barrier. -/
abbrev TI : Type := Fin 8 ⊕ Fin 8 ⊕ Fin 8 ⊕ Fin 2 ⊕ Unit
def tokSem : TI → SemLoc sig × ℕ
  | .inl k => (.dma (bS k), 0)
  | .inr (.inl k) => (.dma (bR k), 0)
  | .inr (.inr (.inl k)) => (.dma (wS (slotOf k)), k.val / 2)
  | .inr (.inr (.inr (.inl i))) => (.dma ⟨4 + i.val, by have := i.isLt; change 4 + i.val < 22; omega⟩, 0)
  | .inr (.inr (.inr (.inr _))) => (.reg barS, 0)

set_option maxRecDepth 8000 in
theorem tokSem_injective : Function.Injective tokSem := by decide

def tokOf (ct : Dev nD × TI) : GSem nD τ sig × ℕ × Unit := (((ct.1 : Thread nD τ), (tokSem ct.2).1), (tokSem ct.2).2, ())

theorem tokOf_injective : Function.Injective tokOf := by
  rintro ⟨c, t⟩ ⟨c', t'⟩ h
  have h1 : c = c' := congrArg (fun x : GSem nD τ sig × ℕ × Unit => x.1.1.1) h
  have h2 : t = t' := tokSem_injective (Prod.ext (congrArg (fun x : GSem nD τ sig × ℕ × Unit => x.1.2) h) (congrArg (fun x : GSem nD τ sig × ℕ × Unit => x.2.1) h))
  rw [h1, h2]

def allToks : Finset (GSem nD τ sig × ℕ × Unit) := Finset.univ.map ⟨tokOf, tokOf_injective⟩

/-- The launch's ghost element. -/
def u₀ : UU := (initOf (Pipeline.cells cfgs cellOf_inj) (Pipeline.launchToks cfgs cellOf_inj), initOf allCells allToks)

/-- The tokens of device `c`'s semaphores. -/
def toks : sProp 𝕄 :=
  iprop((bigSep Finset.univ fun k : Fin 8 => dutyTok ER (cell c (bS k)) 0 ()) ∗ (bigSep Finset.univ fun k : Fin 8 => dutyTok ER (cell c (bR k)) 0 ())
    ∗ (bigSep Finset.univ fun k : Fin 8 => dutyTok ER (wcell c k) (k.val / 2) ())
    ∗ (dutyTok ER (cell c stS) 0 () ∗ dutyTok ER (cell c stR) 0 ()) ∗ dutyTok ER (barCell c) 0 ())

theorem toks_eq : (bigSep Finset.univ fun t : TI => (dutyTok ER (tokOf (c, t)).1 (tokOf (c, t)).2.1 (tokOf (c, t)).2.2 : sProp 𝕄)) = toks c := by
  unfold toks
  rw [bigSep_univ_sum, bigSep_univ_sum, bigSep_univ_sum, bigSep_univ_sum, bigSep_fin_two, bigSep_univ_of_subsingleton ()]; rfl

/-- What the launch's element deals device `c`, -/
def G : sProp 𝕄 :=
  iprop((bigSep Finset.univ fun i : CI => roundState ER (Rd m) (kcell (c, i)) 0)
    ∗ (bigSep Finset.univ fun i : CI => atPos ER (kcell (c, i)) 0 ∅ 0) ∗ (bigSep Finset.univ fun i : CI => reached ER (kcell (c, i)) 0) ∗ toks c)

/-- Every cell's invariant and that each has been reached, -/
def opened : sProp 𝕄 :=
  iprop((bigSep Finset.univ fun ck : Dev nD × CI => cellInv ER (Rd m) (K ck) (kcell ck)) ∗ (bigSep Finset.univ fun ck : Dev nD × CI => reached ER (kcell ck) 0))

instance opened_persistent (K : Dev nD × CI → ℕ) : BI.Persistent (opened m K) := by unfold opened; infer_instance

/-- and what device `c` has once all the cells are made. -/
def G' : sProp 𝕄 := iprop(∃ K, opened m K ∗ linear c)

theorem cells_split (Φ : GSem nD τ sig → sProp 𝕄) :
    bigSep allCells Φ = bigSep Finset.univ fun c : Dev nD => bigSep Finset.univ fun i : CI => Φ (kcell (c, i)) := by
  unfold allCells; rw [bigSep_map, bigSep_univ_prod]; rfl

theorem toks_split : bigSep allToks (fun x => (dutyTok ER x.1 x.2.1 x.2.2 : sProp 𝕄)) = bigSep Finset.univ fun c : Dev nD => toks c := by
  unfold allToks; rw [bigSep_map, bigSep_univ_prod]
  exact bigSep_congr fun c _ => toks_eq c

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst' := (Entails.of_eq (cells_split fun g => roundState ER (Rd m) g 0)) $$ Hst
  ihave Hat' := (Entails.of_eq (cells_split fun g => atPos ER g 0 ∅ 0)) $$ Hat
  ihave Hr' := (Entails.of_eq (cells_split fun g => reached ER g 0)) $$ Hr
  ihave Htok' := (Entails.of_eq toks_split) $$ Htok
  unfold G; simp only [bigSep_sep']
  isplitl [Hst']; · iexact Hst'
  isplitl [Hat']; · iexact Hat'
  isplitl [Hr']; · iexact Hr'
  iexact Htok'

/-- Device `c` makes its cells. -/
theorem core_alloc :
    iprop(Pipeline.ownSems0 osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => atPos ER (kcell (c, i)) 0 ∅ 0) ∗ (bigSep Finset.univ fun i : CI => reached ER (kcell (c, i)) 0) ∗ toks c) := by
  unfold G
  iintro ⟨Hos, Hus, Hst, Hrest⟩
  ihave Hv := (Entails.of_eq (zero_eq (F := F) c)) $$ [Hos Hus]
  · isplitl [Hos]; · iexact Hos
    iexact Hus
  imod (show iprop((bigSep Finset.univ fun i : CI => semVal (kcell (c, i)) 0) ∗ bigSep Finset.univ fun i : CI => roundState ER (Rd m) (kcell (c, i)) 0)
      ⊢ (|={Set.univ}=> bigSep Finset.univ fun i => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv]; · iexact Hv
    iexact Hst
  imodintro
  isplitl [Hinv]; · iexact Hinv
  iexact Hrest

/-- The tokens of the payments between the devices change sides. -/
theorem toks_around : (bigSep Finset.univ fun c : Dev nD => (toks c : sProp 𝕄)) ⊢ bigSep Finset.univ fun c : Dev nD => payToks c := by
  unfold toks payToks
  simp only [bigSep_sep']
  rw [bigSep_univ_equiv swap (fun c : Dev nD => (bigSep Finset.univ fun k : Fin 8 => dutyTok ER (cell c (bR k)) 0 () : sProp 𝕄)),
    bigSep_univ_equiv swap (fun c : Dev nD => (dutyTok ER (cell c stR) 0 () : sProp 𝕄)),
    bigSep_univ_equiv swap (fun c : Dev nD => (dutyTok ER (barCell c) 0 () : sProp 𝕄))]
  exact Entails.refl _

theorem regroup :
    (bigSep Finset.univ fun c : Dev nD => iprop((bigSep Finset.univ fun i : CI => iprop(∃ κ : ℕ, cellInv ER (Rd m) κ (kcell (c, i))))
          ∗ (bigSep Finset.univ fun i : CI => atPos ER (kcell (c, i)) 0 ∅ 0) ∗ (bigSep Finset.univ fun i : CI => reached ER (kcell (c, i)) 0) ∗ toks c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  have hg (c : Dev nD) : iprop(opened m K ∗ linear c) ⊢ G' m c := by
    unfold G'; iintro H; iexists K; iexact H
  iapply (with_persistent (R := opened m K) fun c _ => hg c)
  isplitr
  · unfold opened; isplitl; · iexact HI
    iexact HR
  unfold linear
  rw [bigSep_sep']
  isplitl [Hat]; · iexact Hat
  iexact Htk

/-- All the cells are made at once. -/
theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What a device is owed -/

theorem arrive_injective : Function.Injective arrive := by decide

theorem owed_sum (d : Dev nD) (g : GSem nD τ sig) : ∀ n : ℕ, owed d n g ()
    = ∑ j ∈ Finset.range n, if g = cell (peer d) (arrive (Fin.ofNat 9 (8 - j))) then amountOf (.dma (arrive (Fin.ofNat 9 (8 - j)))) else 0
  | 0 => rfl
  | n + 1 => by
    unfold owed
    rw [Pi.add_apply, Finsupp.add_apply, tallyAt_apply, Finset.sum_range_succ, owed_sum d g n]
    simp only [and_true]

theorem owed_arrive (d : Dev nD) (i : Fin 9) : owed d 9 (cell (peer d) (arrive i)) () = amountOf (.dma (arrive i)) := by
  have hi : Fin.ofNat 9 (8 - (8 - i.val)) = i := by revert i; decide
  rw [owed_sum, Finset.sum_eq_single (8 - i.val)]
  · rw [hi, if_pos rfl]
  · intro j hj hne
    rw [if_neg]
    intro h
    have h1 : arrive i = arrive (Fin.ofNat 9 (8 - j)) := by
      have h2 : (SemLoc.dma (arrive i) : SemLoc sig) = .dma (arrive (Fin.ofNat 9 (8 - j))) := congrArg Prod.snd h
      exact SemLoc.dma.inj h2
    have h3 := congrArg Fin.val (arrive_injective h1)
    rw [Fin.val_ofNat] at h3
    have := Finset.mem_range.mp hj
    have := i.isLt
    omega
  · intro h; exact absurd (Finset.mem_range.mpr (by omega)) h

theorem O₀_arrive (i : Fin 9) : O₀ (peer c) (cell c (arrive i)) () = amountOf (.dma (arrive i)) := by
  unfold O₀
  rw [Pi.add_apply, Finsupp.add_apply, tallyAt_ne_cell (fun h => by have := congrArg Prod.snd h; cases this), Finsupp.zero_apply, Nat.add_zero]
  have := owed_arrive (peer c) i
  rwa [peer_peer] at this

theorem O₀_bar : O₀ (peer c) (barCell c) () = 1 := by
  unfold O₀
  rw [Pi.add_apply, Finsupp.add_apply, peer_peer, tallyAt_apply, if_pos ⟨rfl, rfl⟩]
  have : owed (peer c) 9 (barCell c) () = 0 := by
    by_contra h
    have := (owed_pos (Nat.pos_of_ne_zero h)).2
    exact absurd this (show ¬ (1 : ℕ) = 2 by decide)
  rw [this]

/-- A device is owed by its peer only. -/
theorem O₀_other (d : Dev nD) (sm : SemLoc sig) (h : d ≠ peer c) : O₀ d ((c : Thread nD τ), sm) () = 0 := by
  by_contra hn
  have h1 : c = peer d := congrArg (fun t : Thread nD τ => t.1) (O₀_pos (Nat.pos_of_ne_zero hn)).1
  exact h (by rw [h1, peer_peer])

theorem launch_owed (sm : SemLoc sig) (a : ℕ) (h : O₀ (peer c) ((c : Thread nD τ), sm) () = a) :
    tallyOn ((c : Thread nD τ), sm) (launchCredit (Pipeline.owing O₀) 0 ((c : Thread nD τ), sm)) = (tallyAt ((c : Thread nD τ), sm) () a : CellTallies nD τ sig Unit) := by
  unfold tallyAt; refine congrArg _ (Finsupp.ext fun u => ?_); cases u
  rw [Pipeline.launchCredit_owing, Finsupp.single_eq_same, Finset.sum_eq_single (peer c), h]
  · intro d _ hd; exact O₀_other c d sm hd
  · intro hn; exact absurd (Finset.mem_univ _) hn

/-- The semaphores a device waits on for its peer. -/
def dueSem : Unit ⊕ Unit ⊕ Fin 8 → SemLoc sig
  | .inl _ => .reg barS
  | .inr (.inl _) => .dma stR
  | .inr (.inr k) => .dma (bR k)

theorem dueSem_injective : Function.Injective dueSem := by decide

theorem creds_intro : (Pipeline.launchCred O₀ c : sProp 𝕄) ⊢ creds c := by
  have hb := launch_owed c (.reg barS) 1 (O₀_bar c)
  have hs := launch_owed c (.dma stR) NS (O₀_arrive c 6)
  have hr (k : Fin 8) : tallyOn (cell c (bR k)) (launchCredit (Pipeline.owing O₀) 0 (cell c (bR k))) = (tallyAt (cell c (bR k)) () NB : CellTallies nD τ sig Unit) := by
    obtain ⟨i, hi⟩ : ∃ i, arrive i = bR k := by revert k; decide
    have := launch_owed c (.dma (arrive i)) _ (O₀_arrive c i)
    rw [hi, amount_bR] at this; exact this
  have he : (bigSep (Finset.univ.map ⟨dueSem, dueSem_injective⟩) fun sm => cred (tallyOn ((c : Thread nD τ), sm) (launchCredit (Pipeline.owing O₀) 0 ((c : Thread nD τ), sm))) : sProp 𝕄)
      = creds c := by
    unfold creds
    rw [bigSep_map, bigSep_univ_sum, bigSep_univ_sum, bigSep_univ_of_subsingleton (), bigSep_univ_of_subsingleton (), ← hb, ← hs]
    simp only [← hr]; rfl
  rw [← he]; unfold Pipeline.launchCred
  exact bigSep_subset (Finset.subset_univ _)

end Cert.Softmax

end
-- ==== Proof.Run.lean ====
/-
# The run

From any memory with every semaphore at zero, all devices run to the end: each leaves its result array at the computed
contents, its arguments as they were and every semaphore at zero.
-/
module

public import proofs.«01_k».proof.Proof.Ghost
public import Idealize.ShloMosaic.Lib.Pipeline.CollectiveSegs

@[expose] public section

noncomputable section

namespace Cert.Softmax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The body as the pipeline asks for it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Before the body: the ghost state and the scratch buffers; -/
def Φ₀ : sProp 𝕄 := iprop(start m c ∗ Pipeline.scopedRest cfg0.spec c)
/-- after it: the scratch buffers, every semaphore at zero and the weights as launched. -/
def Φ₁ : sProp 𝕄 := iprop(Pipeline.scopedRest cfg0.spec c ∗ (Pipeline.ownSems0 osem c ∗ unscopedSems0 c) ∗ wHeld m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

/-- A staging buffer of device `c`, holding `X`. -/
abbrev stgAt (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (b : Ref sig .tc) (X : b.ty.Contents (Elt F)) :
    (owns (Ix := Unit) (Name := ℕ) (U := UU) (Lvl := ℕ) (c : Thread nD τ) (Memref.whole b) fullShare X : sProp 𝕄) = stgAt c b X := by
  unfold owns; simp only [Memref.view_whole, View.read_whole, View.set_whole]

def bodyPre : sProp 𝕄 :=
  iprop(Φ₀ m c ∗ (dats m ρ 0 c).owesAt () t₀.castSucc
    ∗ (∃ d, stgAt c cc0_stg0_0 ((dats m ρ 0 c).before (0 : Fin 2) t₀ d))
    ∗ (∃ d, stgAt c cc0_stg1_0 ((dats m ρ 0 c).before (1 : Fin 2) t₀ d)))

def bodyPost : sProp 𝕄 :=
  iprop(Φ₁ m c ∗ (dats m ρ 0 c).owesAt () t₀.succ ∗ stgAt c cc0_stg0_0 (xstg m c) ∗ stgAt c cc0_stg1_0 (outAt m c))

theorem sound_body :
    bodyPre m ρ c ⊢ WP c (cc0_body xM (Memref.isWhole_whole _) wM (Memref.isWhole_whole _) oM (Memref.isWhole_whole _) bM (Memref.isWhole_whole _)
          sM (Memref.isWhole_whole _) rM (Memref.isWhole_whole _) tM (Memref.isWhole_whole _) uM (Memref.isWhole_whole _)
          cc0_scratch5 cc0_scratch6 cc0_scratch7 cc0_scratch8 cc0_scratch9) (fun _ => bodyPost m ρ c) := by
  unfold bodyPre Φ₀ start Dat.owesAt Pipeline.owesWithin
  iintro ⟨⟨⟨⟨%K, #HR, HL⟩, HC, HW⟩, Hscr⟩, ⟨%W, %hW, HO⟩, ⟨%d0, %g0, %hg0, Hx⟩, ⟨%d1, %g1, %hg1, Hout⟩⟩
  have hx : g0 = xstg m c := by rw [hg0]; unfold Dat.before; rw [if_pos (fetch_0 t₀)]; rfl
  subst hx
  iapply (wp_body m K c (fun _ => bodyPost m ρ c))
  isplitl
  · iapply (body_enter m K c)
    isplitr; · iexact HR
    isplitl [HL]; · iexact HL
    isplitl [HC]; · iexact HC
    isplitl [HW]; · iexact HW
    isplitl [Hscr]; · iexact Hscr
    isplitl [HO]; · unfold OW; iexists W; iexact HO
    isplitl [Hx]; · iexact Hx
    unfold Out; iexists g1
    isplitr; · ipureintro; exact fun i h => absurd h (Finset.notMem_empty _)
    iexact Hout
  iintro Hb
  ihave Hb := (body_leave m c) $$ Hb
  unfold OW Out
  icases Hb with ⟨⟨%W', HO⟩, Hx, ⟨%f, %hf, Hout⟩, Hscr, HW, Hs⟩
  imod (close_all m K c) $$ [Hs] with Hz
  · isplitr; · iexact HR
    iexact Hs
  imodintro
  unfold bodyPost Φ₁ Dat.owesAt Pipeline.owesWithin
  isplitl [Hscr Hz HW]
  · isplitl [Hscr]; · iexact Hscr
    isplitl [Hz]; · iexact Hz
    iexact HW
  isplitl [HO]
  · iexists W'
    isplitr; · ipureintro; exact fun _ _ => Or.inl trivial
    iexact HO
  isplitl [Hx]
  · iexists _; isplitr; · (ipureintro; rfl)
    iexact Hx
  iexists f
  isplitr; · (ipureintro; exact funext fun i => hf i (Finset.mem_univ _))
  iexact Hout

set_option maxRecDepth 20000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' opened
  iintro ⟨HW, #Hlev, Hcr, -, ⟨%K, ⟨#HI, #HR⟩, HL⟩⟩
  ihave Hc := (creds_intro (F := F) c) $$ Hcr
  imodintro
  unfold start records
  isplitl
  · isplitl [HL]
    · iexists K
      isplitr
      · isplitr; · iexact HI
        isplitr; · iexact HR
        iexact Hlev
      iexact HL
    isplitl [Hc]; · iexact Hc
    iexact HW
  iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi_out (c : Dev nD) :
    (dats m ρ 0 c).Φ (Fin.last cfg0.N) ⊢ iprop((unscopedSems0 c ∗ wHeld m c) ∗ Pipeline.ownSems0 osem c ∗ Pipeline.scopedRest cfg0.spec c) := by
  rw [show (dats m ρ 0 c).Φ (Fin.last cfg0.N) = Φ₁ m c from rfl]
  unfold Φ₁
  iintro ⟨Hr, ⟨Ho, Hu⟩, HW⟩
  isplitl [Hu HW]
  · isplitl [Hu]; · iexact Hu
    iexact HW
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hl : lvS (.dma (((cfgs 0).win w).sem s)) = 0 := by fin_cases w <;> fin_cases s <;> decide
    rcases t with ⟨_ | _, ht⟩
    · exact mayWait_start c _ hl
    · exact mayWait_owed c _ 0 (by rw [hl]; decide)

/-- What a device's arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
theorem run_all : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ wHeld m c)) (Z := fun _ => iprop(emp))
    (hX := start_intro m ρ) (hin := phi_in m ρ) (hout := phi_out m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      iintro ⟨⟨Hu, HW⟩, -, HSI⟩
      icombine HSI HW gives %h
      imod (Pipeline.unscopedSems0_read (X := unscopedSems0 c) (c := c) fupd_intro s') $$ [Hu HSI] with ⟨%hu, HSI⟩
      · isplitl [Hu]; · iexact Hu
        iexact HSI
      imodintro
      isplitr; · ipureintro; exact ⟨Buf.eq_of_forall_mem_univ h, hu⟩
      iexact HSI)
    (hQ := fun _ h hs => ⟨fun c => ⟨fun w => (h c).1 w, (h c).2.2.1⟩, sem_eq_zero hs fun c => (h c).2.2.2⟩)

/-- The activations end as they were. -/
theorem finalA_x (c : Dev nD) : finalA m ρ c (0 : Fin 2) = m ((c : Thread nD τ).loc main_arg0) :=
  (dats (F := F) m ρ 0 c).arrAt_in (0 : Fin 2) rfl _

/-- The run leaves the arguments as they were and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 (0 : Fin 2)).trans (finalA_x m ρ c), (h.1 c).2⟩, h.2⟩) (run_all m ρ)

end Cert.Softmax

end
-- ==== Proof.Reals.lean ====
/-
# The softmax over the reals

The formula both programs compute, and how sums, maxima and quotients of real numbers read among the extended reals.
-/
module

public import Idealize.ShloMosaic.Lib.Pointwise
public import Idealize.ShloMosaic.Lib.IdealHost

@[expose] public section

noncomputable section

namespace Cert.Softmax

open Idealize.ShloMosaic
open scoped BigOperators

/-! ## Real numbers among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp_coe (r : ℝ) : Ideal.exp (r : EReal) = (Real.exp r : EReal) := rfl

theorem div_coe_coe (a : ℝ) {b : ℝ} (hb : b ≠ 0) : Ideal.div (a : EReal) (b : EReal) = ((a / b : ℝ) : EReal) := by
  rw [Ideal.div_coe hb, ← EReal.coe_mul, mul_one_div]

/-- The greatest of finitely many reals, at least one, is a real. -/
theorem fold_max_coe {ι : Type} {s : Finset ι} (hs : s.Nonempty) (f : ι → ℝ) :
    ∃ M : ℝ, s.fold max ⊥ (fun i => (f i : EReal)) = (M : EReal) := by
  classical
  induction hs using Finset.Nonempty.cons_induction with
  | singleton a => exact ⟨f a, by rw [Finset.fold_singleton]; exact max_eq_left bot_le⟩
  | cons a s h _ ih =>
    obtain ⟨M, hM⟩ := ih
    exact ⟨max (f a) M, by rw [Finset.fold_cons, hM]; exact (EReal.coe_strictMono.monotone.map_max).symm⟩

/-- An extended real whose size is below infinity is a real. -/
theorem real_of_finite {a : EReal} (h : max a (-a) < ⊤) : ∃ r : ℝ, a = (r : EReal) := by
  obtain ⟨h1, h2⟩ := max_lt_iff.mp h
  refine ⟨a.toReal, (EReal.coe_toReal h1.ne ?_).symm⟩
  rintro rfl
  exact absurd h2 (by simp)

/-! ## The formula -/

variable (x : Fin 512 → Fin 1024 → ℝ) (W : Fin 1024 → Fin 16384 → ℝ)

/-- The logits, their exponentials, and the softmax of a row of them. -/
def lg (r : Fin 512) (J : Fin 16384) : ℝ := ∑ d : Fin 1024, x r d * W d J
def eg (r : Fin 512) (J : Fin 16384) : ℝ := Real.exp (lg x W r J)
def sm (r : Fin 512) (J : Fin 16384) : ℝ := eg x W r J / ∑ K : Fin 16384, eg x W r K

theorem eg_sum_pos (r : Fin 512) : 0 < ∑ K : Fin 16384, eg x W r K :=
  Finset.sum_pos (fun K _ => Real.exp_pos _) ⟨0, Finset.mem_univ _⟩

/-- Lowering every logit of a row by one number does not change the softmax. -/
theorem sm_shift (r : Fin 512) (J : Fin 16384) (M : ℝ) :
    Real.exp (lg x W r J - M) / ∑ K : Fin 16384, Real.exp (lg x W r K - M) = sm x W r J := by
  simp only [Real.exp_sub]
  rw [← Finset.sum_div, div_div_div_cancel_right₀ (Real.exp_pos M).ne']
  rfl

/-! ## The columns by halves and chunks -/

/-- Column `j` of chunk `k` of half `h`. -/
def gcol (h : Fin 2) (k : Fin 8) (j : Fin 1024) : Fin 16384 := ⟨8192 * h.val + (1024 * k.val + j.val), by omega⟩

/-- A sum over one half of the columns. -/
def half (E : Fin 16384 → ℝ) (h : Fin 2) : ℝ := ∑ k : Fin 8, ∑ j : Fin 1024, E (gcol h k j)

theorem sum_chunks {M : Type*} [AddCommMonoid M] (f : Fin 8192 → M) :
    ∑ q : Fin 8192, f q = ∑ k : Fin 8, ∑ j : Fin 1024, f ⟨1024 * k.val + j.val, by omega⟩ := by
  rw [← Fintype.sum_prod_type' (fun (k : Fin 8) (j : Fin 1024) => f ⟨1024 * k.val + j.val, by omega⟩)]
  refine (Fintype.sum_equiv (finProdFinEquiv (m := 8) (n := 1024)) _ _ fun p => congrArg f (Fin.ext ?_)).symm
  simp only [finProdFinEquiv_apply_val]; omega

theorem half_add (E : Fin 16384 → ℝ) : half E 0 + half E 1 = ∑ K : Fin 16384, E K := by
  rw [Fin.sum_univ_two_halves 8192 8192 rfl E, sum_chunks, sum_chunks]
  unfold half
  refine congrArg₂ (· + ·) ?_ ?_ <;>
    exact Finset.sum_congr rfl fun k _ => Finset.sum_congr rfl fun j _ => congrArg E (Fin.ext (by simp [gcol]))

theorem half_swap (E : Fin 16384 → ℝ) {h h' : Fin 2} (hh : h ≠ h') : half E h + half E h' = ∑ K : Fin 16384, E K := by
  rw [← half_add E]
  have hc : (h = 0 ∧ h' = 1) ∨ (h = 1 ∧ h' = 0) := by revert h h'; decide
  rcases hc with ⟨rfl, rfl⟩ | ⟨rfl, rfl⟩
  · rfl
  · exact add_comm _ _

end Cert.Softmax

end
-- ==== Proof.Value.lean ====
/-
# What a device computes, on exact numbers

Each vector the kernel builds, read at one index.
-/
module

public import proofs.«01_k».proof.Proof.Run
public import proofs.«01_k».proof.Proof.Reals
public import proofs.«01_k».proof.Proof.Gen.KernelIdeal.Points
public import Idealize.ShloMosaic.Lib.Pointwise
public import Idealize.ShloMosaic.Lib.IdealHost

@[expose] public section

noncomputable section

namespace Cert.Softmax

open Cert.KernelIdeal Cert.KernelIdeal.Gen
open Idealize.ShloMosaic Idealize.SL.Sem
open Idealize.ShloMosaic.TcCoe
open scoped BigOperators

/-! ## The vector expressions -/

theorem narrow_at (v : Vec Ideal S512x1024 .f32) (r : Fin 512) (d : Fin 1024) : k0_pay2 (F := Ideal) v (ix2 r d) = v (ix2 r d) := by
  pointwise [k0_pay2]

theorem exps_at (v : FVec Ideal S512x1024 .bf16) (w : Vec Ideal S1x1024x1024 .f32) (r : Fin 512) (j : Fin 1024) :
    k0_pay3 (F := Ideal) v w (ix2 r j) = Ideal.exp (∑ d : Fin 1024, v (ix2 r d) * w (ix3 0 d j)) := by
  pointwise [k0_pay3]

theorem kept_at (v : FVec Ideal S512x1024 .bf16) (w : Vec Ideal S1x1024x1024 .f32) (r : Fin 512) (j : Fin 1024) :
    k0_pay4 (F := Ideal) v w (ix2 r j) = k0_pay3 (F := Ideal) v w (ix2 r j) := by
  pointwise [k0_pay4]

theorem sum_at (s : FVec Ideal S512x1 .f32) (v : FVec Ideal S512x1024 .bf16) (w : Vec Ideal S1x1024x1024 .f32) (r : Fin 512) :
    k0_pay5 (F := Ideal) s v w (ix2 r 0) = s (ix2 r 0) + ∑ j : Fin 1024, k0_pay3 (F := Ideal) v w (ix2 r j) := by
  pointwise [k0_pay5]

theorem sent_at (s : FVec Ideal S512x1 .f32) (v : FVec Ideal S512x1024 .bf16) (w : Vec Ideal S1x1024x1024 .f32) (r : Fin 512) (l : Fin 128) :
    k0_pay27 (F := Ideal) v s w (ix2 r l) = k0_pay5 (F := Ideal) s v w (ix2 r 0) := by
  pointwise [k0_pay27, k0_pay26, k0_pay5]
  rfl

theorem zero_at (r : Fin 512) : k0_pay1 (F := Ideal) (ix2 r 0) = 0 := by
  pointwise [k0_pay1]

theorem recip_at (a b : FVec Ideal S512x1 .f32) (r : Fin 512) :
    k0_pay28 (F := Ideal) a b (ix2 r 0) = Ideal.div 1 (a (ix2 r 0) + b (ix2 r 0)) := by
  pointwise [k0_pay28]

theorem scaled_at (i : FVec Ideal S512x1 .f32) (e : Vec Ideal S512x1024 .bf16) (r : Fin 512) (j : Fin 1024) :
    k0_pay31 (F := Ideal) i e (ix2 r j) = e (ix2 r j) * i (ix2 r 0) := by
  pointwise [k0_pay31]

/-! ## What the views read -/

variable (m : (ℓ : Loc nD τ sig) → Buf (Elt Ideal) ℓ) (ρ : Dev nD → PrngReg) (c : Dev nD)

/-- Device `c`'s activations and weights. -/
abbrev xOf : S512x1024.Idx → EReal := m ((c : Thread nD τ).loc main_arg0)
abbrev wOf : S1024x8192.Idx → EReal := m ((c : Thread nD τ).loc main_arg1)

/-- Column `j` of chunk `k`, among a device's columns. -/
def col (k : Fin 8) (j : Fin 1024) : Fin 8192 := ⟨1024 * k.val + j.val, by omega⟩

theorem xstg_at (r : Fin 512) (d : Fin 1024) : xstg m c (ix2 r d) = xOf m c (ix2 r d) := by
  unfold xstg
  refine congrArg (m ((c : Thread nD τ).loc main_arg0)) ?_
  funext a; apply Fin.ext
  match a with
  | ⟨0, _⟩ => show 0 * 512 + 1 * r.val = r.val; omega
  | ⟨1, _⟩ => show 0 * 1024 + 1 * d.val = d.val; omega

theorem wVec_at (k : Fin 8) (d j : Fin 1024) : wVec m c k (ix3 0 d j) = wOf m c (ix2 d (col k j)) := by
  unfold wVec wChunk
  rw [Shape.reshapeEquiv_symm]
  pointwise
  refine congrArg (m ((c : Thread nD τ).loc main_arg1)) ?_
  funext a; apply Fin.ext
  match a with
  | ⟨0, _⟩ => show 0 + 1 * d.val = d.val; omega
  | ⟨1, _⟩ => show 1024 * k.val + 1 * j.val = 1024 * k.val + j.val; omega

theorem statCol_at (r : Fin 512) : statCol m c (ix2 r 0) = stat m (peer c) (ix2 r 0) := by
  unfold statCol
  refine congrArg (stat m (peer c)) ?_
  funext a; apply Fin.ext
  match a with
  | ⟨0, _⟩ => show 0 + 1 * r.val = r.val; omega
  | ⟨1, _⟩ => rfl

/-- The result array ends holding what the body leaves in its buffer. -/
theorem finalA_out : finalA m ρ c (1 : Fin 2) = outAt m c := by
  refine ((dats (F := Ideal) m ρ 0 c).arrAt_succ (1 : Fin 2) (0 : Fin 1)).trans ((if_pos (flush0_1 _)).trans ?_)
  funext i
  have hi : ((cfg0.win (1 : Fin 2)).blk (0 : Fin 1)).view.emb i = i := by
    funext a; apply Fin.ext
    match a with
    | ⟨0, _⟩ => show 0 * 512 + 1 * (i 0).val = (i 0).val; omega
    | ⟨1, _⟩ => show 0 * 16384 + 1 * (i 1).val = (i 1).val; omega
  have h := View.write_emb_of_mem (v := ((cfg0.win (1 : Fin 2)).blk (0 : Fin 1)).view) (Val := Elt Ideal)
    ((dats (F := Ideal) m ρ 0 c).arrAt (1 : Fin 2) 0) ((dats (F := Ideal) m ρ 0 c).flushed (1 : Fin 2) (0 : Fin 1)) (Finset.mem_univ i)
  rw [hi] at h
  exact h

/-! ## A device's result -/

/-- The half of the columns a device's weights are. -/
def side (c : Dev nD) : Fin 2 := ⟨c.val / 2, by have : c.val < 4 := c.isLt; omega⟩

theorem side_peer : side c ≠ side (peer c) := by revert c; decide

/-- A column is a column of its block's owner. -/
theorem owner_col (J : Fin 16384) (b : Fin 16) (hb : b.val = J.val / 1024) (j : Fin 1024) (hj : j.val = J.val % 1024) :
    gcol (side (owner c b)) (Fin.ofNat 8 b.val) j = J := by
  have ho : ∀ (c : Dev nD) (b : Fin 16), (side (owner c b)).val = b.val / 8 := by decide
  apply Fin.ext
  have h8 : (Fin.ofNat 8 b.val).val = b.val % 8 := rfl
  simp only [gcol, ho, h8]; omega

variable (x : Fin 512 → Fin 1024 → ℝ) (W : Fin 1024 → Fin 16384 → ℝ)

/-- The arguments hold these reals: every device all of the activations, and its half of the weights. -/
structure Holds : Prop where
  x_at : ∀ (c : Dev nD) (r : Fin 512) (d : Fin 1024), xOf m c (ix2 r d) = (x r d : EReal)
  w_at : ∀ (c : Dev nD) (d : Fin 1024) (k : Fin 8) (j : Fin 1024), wOf m c (ix2 d (col k j)) = (W d (gcol (side c) k j) : EReal)

variable {m x W} (H : Holds m x W)
include H

theorem e_at (k : Fin 8) (r : Fin 512) (j : Fin 1024) :
    k0_pay3 (F := Ideal) (xb m c) (wVec m c k) (ix2 r j) = (eg x W r (gcol (side c) k j) : EReal) := by
  rw [exps_at]
  unfold eg lg
  rw [← exp_coe, coe_sum]
  refine congrArg Ideal.exp (Finset.sum_congr rfl fun d _ => ?_)
  unfold xb
  rw [narrow_at, xstg_at, wVec_at, H.x_at, H.w_at, EReal.coe_mul]

theorem ex_at (k : Fin 8) (r : Fin 512) (j : Fin 1024) : ex m c k (ix2 r j) = (eg x W r (gcol (side c) k j) : EReal) := by
  unfold ex
  rw [kept_at, e_at c H]

theorem rowSum_at (r : Fin 512) : ∀ n : ℕ,
    rowSum m c n (ix2 r 0) = ((∑ k ∈ Finset.range n, ∑ j : Fin 1024, eg x W r (gcol (side c) (Fin.ofNat 8 k) j) : ℝ) : EReal)
  | 0 => by unfold rowSum; rw [zero_at]; simp
  | n + 1 => by
    unfold rowSum
    rw [sum_at, rowSum_at r n, Finset.sum_range_succ, EReal.coe_add, coe_sum (Finset.univ : Finset (Fin 1024))]
    exact congrArg₂ (· + ·) rfl (Finset.sum_congr rfl fun j _ => e_at c H _ r j)

theorem total_at (r : Fin 512) : rowSum m c 8 (ix2 r 0) = (half (eg x W r) (side c) : EReal) := by
  rw [rowSum_at c H r 8, Finset.sum_range]
  unfold half
  refine congrArg Real.toEReal (Finset.sum_congr rfl fun k _ => ?_)
  rw [show Fin.ofNat 8 k.val = k from Fin.ext (Nat.mod_eq_of_lt k.isLt)]

theorem inv_at (r : Fin 512) : inv m c (ix2 r 0) = ((1 / ∑ K : Fin 16384, eg x W r K : ℝ) : EReal) := by
  unfold inv
  rw [recip_at, statCol_at]
  unfold stat
  rw [sent_at, show k0_pay5 (rowSum m (peer c) 7) (xb m (peer c)) (wVec m (peer c) 7) = rowSum m (peer c) 8 from rfl,
    total_at c H, total_at (peer c) H, ← EReal.coe_add, half_swap _ (side_peer c)]
  exact div_coe_coe 1 (eg_sum_pos x W r).ne'

/-- Every device's result is the softmax. -/
theorem outAt_at (r : Fin 512) (J : Fin 16384) : outAt m c (ix2 r J) = (sm x W r J : EReal) := by
  have hi : inBlk (ix2 r J) = ix2 r (⟨J.val % 1024, Nat.mod_lt _ (by decide)⟩ : Fin 1024) := by
    funext a
    match a with
    | ⟨0, _⟩ => rfl
    | ⟨1, _⟩ => rfl
  unfold outAt outBlk
  rw [hi, scaled_at, ex_at _ H, inv_at c H, owner_col c J (blkOf (ix2 r J)) rfl _ rfl, ← EReal.coe_mul, mul_one_div]
  rfl

end Cert.Softmax

end
-- ==== Proof.RefValue.lean ====
/-
# The reference's softmax, on exact numbers
-/
module

public import proofs.«01_k».proof.Proof.Gen.ReferenceIdeal
public import proofs.«01_k».proof.Proof.Reals

@[expose] public section

noncomputable section

namespace Cert.Softmax.Ref

open Cert.ReferenceIdeal Cert.ReferenceIdeal.Gen
open Idealize.ShloMosaic Idealize.SL.Sem
open scoped BigOperators

variable (x : FVec Ideal S512x1024 .f32) (w : FVec Ideal S1024x16384 .f32)

/-- The logits. -/
def logits : FVec Ideal S512x16384 .f32 := Host.dotGeneral dot_S512x1024_S1024x16384_S512x16384_1_0_0_1_n_n none x w
/-- A row's greatest logit, repeated along the row. -/
def maxes : FVec Ideal S512x16384 .f32 := broadcastInDim S512x16384 ![0, 1] bcast_S512x1_S512x16384_0_1
  (broadcastInDim S512x1 ![0] bcast_S512_S512x1_0
    (Host.reduce FloatOps.maximumf (logits x w) (constant S_ .f32 0xFF800000#32) reducesTo_S512x16384_S512_d1 h_S_))
def exps : FVec Ideal S512x16384 .f32 := Host.exp (subf (logits x w) (maxes x w))
def sums : FVec Ideal S512x16384 .f32 := broadcastInDim S512x16384 ![0, 1] bcast_S512x1_S512x16384_0_1
  (broadcastInDim S512x1 ![0] bcast_S512_S512x1_0
    (Host.reduceAdd (exps x w) (constant S_ .f32 0x00000000#32) reducesTo_S512x16384_S512_d1 h_S_))
/-- The reference's result. -/
def result : FVec Ideal S512x16384 .f32 := Host.divf (exps x w) (sums x w)

theorem logits_at (r : Fin 512) (j : Fin 16384) : logits x w (ix2 r j) = ∑ d : Fin 1024, x (ix2 r d) * w (ix2 d j) := by
  pointwise [logits]

theorem maxes_at (r : Fin 512) (j : Fin 16384) :
    maxes x w (ix2 r j) = Finset.univ.fold max ⊥ fun k : Fin 16384 => logits x w (ix2 r k) := by
  pointwise [maxes]
  rw [show Ideal.ofBits .f32 0xFF800000#32 = ⊥ by simp [Ideal.ofBits, Ideal.ieee]]

theorem exps_at (r : Fin 512) (j : Fin 16384) : exps x w (ix2 r j) = Ideal.exp (logits x w (ix2 r j) - maxes x w (ix2 r j)) := by
  pointwise [exps]

theorem sums_at (r : Fin 512) (j : Fin 16384) : sums x w (ix2 r j) = ∑ k : Fin 16384, exps x w (ix2 r k) := by
  pointwise [sums]

theorem result_at (r : Fin 512) (j : Fin 16384) : result x w (ix2 r j) = Ideal.div (exps x w (ix2 r j)) (sums x w (ix2 r j)) := by
  pointwise [result]

/-- Of real arguments the reference's result is the softmax. -/
theorem result_real {x : FVec Ideal S512x1024 .f32} {w : FVec Ideal S1024x16384 .f32} {X : Fin 512 → Fin 1024 → ℝ} {W : Fin 1024 → Fin 16384 → ℝ}
    (hx : ∀ r d, x (ix2 r d) = (X r d : EReal)) (hw : ∀ d J, w (ix2 d J) = (W d J : EReal)) (r : Fin 512) (J : Fin 16384) :
    result x w (ix2 r J) = (sm X W r J : EReal) := by
  have hl : ∀ K, logits x w (ix2 r K) = (lg X W r K : EReal) := fun K => by
    rw [logits_at]
    unfold lg
    rw [coe_sum]
    exact Finset.sum_congr rfl fun d _ => by rw [hx, hw, EReal.coe_mul]
  obtain ⟨M, hM⟩ := fold_max_coe (Finset.univ_nonempty (α := Fin 16384)) (lg X W r)
  have he : ∀ K, exps x w (ix2 r K) = (Real.exp (lg X W r K - M) : EReal) := fun K => by
    rw [exps_at, maxes_at]
    simp only [hl]
    rw [hM, ← EReal.coe_sub, exp_coe]
  rw [result_at, sums_at]
  simp only [he]
  rw [← coe_sum, div_coe_coe _ (Finset.sum_pos (fun K _ => Real.exp_pos _) ⟨0, Finset.mem_univ _⟩).ne', sm_shift]

end Cert.Softmax.Ref

end
-- ==== Proof.lean ====
/-
# The claims

The kernel runs on every device of the mesh, whatever its arguments hold; it and the reference end with the same softmax
when the arguments are finite.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Value
public import proofs.«01_k».proof.Proof.RefValue
public import Idealize.ShloMosaic.Lib.ReduceAll

@[expose] public section

noncomputable section

namespace Cert.Proof

open Idealize.ShloMosaic Idealize.SL.Sem
open Idealize.ShloMosaic.TcCoe

/-! ## The two printings of the kernel run the same bodies -/

theorem body_eq : (Cert.Kernel.cc0_body (F := Bits)) = Cert.KernelIdeal.cc0_body (F := Bits) := rfl

theorem table_eq : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | ⟨0, _⟩, (t, s) => exact rfl

theorem defs_eq : (Cert.Kernel.defs (F := Bits)) = Cert.KernelIdeal.defs (F := Bits) :=
  congrArg (Pipeline.defs Cert.KernelIdeal.pcfgs) table_eq

/-! ## The frames -/

/-- The kernel on the machine's floats, and on exact numbers: one run read at each. -/
theorem frame_kernel : Cert.quiescent_Kernel := fun m ρ _ => by
  rw [defs_eq]; exact Cert.Softmax.frame_any (F := Bits) m ρ
theorem frame_kernelIdeal : Cert.quiescent_KernelIdeal := fun m ρ _ => Cert.Softmax.frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

open Cert.Softmax (gcol col side xOf wOf sm)

instance : Subsingleton Cert.Pre_finite_KernelIdeal.S_.Idx := ⟨fun _ _ => funext fun a => a.elim0⟩

theorem lt_top_of_cmp {a : EReal} (h : Ideal.cmp .olt (max a (-a)) (Ideal.ofBits .f32 0x7F800000#32) = 1#1) : max a (-a) < ⊤ := by
  rw [show Ideal.ofBits .f32 0x7F800000#32 = ⊤ by simp [Ideal.ofBits, Ideal.ieee]] at h
  by_contra hn
  simp [Ideal.cmp, hn] at h

/-- Arguments that pass the test of finiteness are real numbers. -/
theorem reals_of_finite {a : FVec Ideal Cert.Pre_finite_KernelIdeal.S512x1024 .f32} {b : FVec Ideal Cert.Pre_finite_KernelIdeal.S1024x8192 .f32}
    (h : Cert.Pre_finite_KernelIdeal.fn (F := Ideal) a b = fun _ => 1#1) : (∀ i, ∃ r : ℝ, a i = (r : EReal)) ∧ ∀ i, ∃ r : ℝ, b i = (r : EReal) := by
  unfold Cert.Pre_finite_KernelIdeal.fn at h
  obtain ⟨ha, hb⟩ := IntOp.andi_eq_one.1 (congrFun h ix0)
  exact ⟨fun i => Cert.Softmax.real_of_finite (lt_top_of_cmp (Host.reduce_andi_all _ _ _ _ _ ha i)),
    fun i => Cert.Softmax.real_of_finite (lt_top_of_cmp (Host.reduce_andi_all _ _ _ _ _ hb i))⟩

/-- What a device's block of the weights reads, among all the weights. -/
theorem block_at (c : Dev Cert.KernelIdeal.nD) (w : (⟨2, ![1024, 16384]⟩ : Shape).Idx → EReal) (d : Fin 1024) (k : Fin 8) (j : Fin 1024) :
    (Layout.blockN ⟨2, ![1024, 8192]⟩ ⟨2, ![1024, 16384]⟩ (Layout.meshBlock [2, 2] ![[], [0]] c) w) (ix2 d (col k j))
      = w (ix2 d (gcol (side c) k j)) := by
  rw [Layout.blockN_apply]
  refine congrArg w ?_
  funext a; apply Fin.ext
  rw [Layout.TilesN.idx_val]
  match a with
  | ⟨0, _⟩ => show 0 * 1024 + d.val = d.val; omega
  | ⟨1, _⟩ =>
    have hc : ∀ c : Dev Cert.KernelIdeal.nD, Layout.meshLin [2, 2] c.val [0] = c.val / 2 := by decide
    show Layout.meshLin [2, 2] c.val [0] * 8192 + (1024 * k.val + j.val) = 8192 * (c.val / 2) + (1024 * k.val + j.val)
    rw [hc]; omega

/-- Every column is in some device's half. -/
theorem col_cover (J : Fin 16384) : ∃ (c : Dev Cert.KernelIdeal.nD) (k : Fin 8) (j : Fin 1024), gcol (side c) k j = J := by
  refine ⟨⟨2 * (J.val / 8192), by show _ < 4; omega⟩, ⟨J.val % 8192 / 1024, by omega⟩, ⟨J.val % 1024, by omega⟩, Fin.ext ?_⟩
  show 8192 * (2 * (J.val / 8192) / 2) + (1024 * (J.val % 8192 / 1024) + J.val % 1024) = J.val
  omega

/-- Both programs end with the softmax of the logits. -/
theorem algebraic : Cert.algebraic_KernelIdeal_ReferenceIdeal_pre_finite_KernelIdeal := by
  intro m g m' g' hf hl
  have hx : ∀ (r : Fin 512) (d : Fin 1024), ∃ q : ℝ, xOf m 0 (ix2 r d) = (q : EReal) := fun r d => (reals_of_finite (hf 0)).1 _
  have hw : ∀ (d : Fin 1024) (J : Fin 16384), ∃ q : ℝ,
      m' (((0 : Dev Cert.ReferenceIdeal.nD).tc : Thread Cert.ReferenceIdeal.nD Cert.ReferenceIdeal.τ).loc Cert.ReferenceIdeal.main_arg1) (ix2 d J) = (q : EReal) := by
    intro d J
    obtain ⟨c, k, j, rfl⟩ := col_cover J
    obtain ⟨q, hq⟩ := (reals_of_finite (hf c)).2 (ix2 d (col k j))
    exact ⟨q, (block_at c _ d k j).symm.trans ((congrFun (hl c).2 _).symm.trans hq)⟩
  choose X hX using hx
  choose W hW using hw
  have H : Cert.Softmax.Holds m X W :=
    ⟨fun c r d => (congrFun ((hl c).1.trans (hl 0).1.symm) _).trans (hX r d),
      fun c d k j => (congrFun (hl c).2 _).trans ((block_at c _ d k j).trans (hW d _))⟩
  refine ⟨fun i => (sm X W (i 0) (i 1) : EReal), ?_, ?_⟩
  · refine (θ_run Cert.KernelIdeal.defs _ _).mono (fun r h c => ⟨?_, ?_, ?_⟩) (Cert.Softmax.run_all (F := Ideal) m g)
    · refine ((h.1 c).1 (1 : Fin 2)).trans ((Cert.Softmax.finalA_out m g c).trans (funext fun i => ?_))
      rw [eq_ix2 (n0 := 512) (n1 := 16384) i]
      exact Cert.Softmax.outAt_at c H _ _
    · exact ((h.1 c).1 (0 : Fin 2)).trans (Cert.Softmax.finalA_x m g c)
    · exact (h.1 c).2
  · refine (θ_run Cert.ReferenceIdeal.defs _ _).mono (fun r h => ⟨?_, (h 0).2.1, (h 0).2.2⟩) (Cert.ReferenceIdeal.Value.run (F := Ideal) m' g')
    refine (h 0).1.trans (funext fun i => ?_)
    rw [eq_ix2 (n0 := 512) (n1 := 16384) i]
    exact Cert.Softmax.Ref.result_real (fun r d => (congrFun (hl 0).1.symm _).trans (hX r d)) hW _ _

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, fun m ρ _ => frame_kernelIdeal m ρ trivial,
    frame_reference, fun m ρ _ => frame_reference m ρ trivial, trivial, algebraic⟩

end Cert.Proof

end
